-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S128x1024 Cert.KernelIdeal.S64x1024
  ∧ IdealRules.bf16_pair.PackStatement Cert.KernelIdeal.S64x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x12288 : Shape := ⟨3, ![2, 3072, 12288]⟩
abbrev S6144x28672 : Shape := ⟨2, ![6144, 28672]⟩
abbrev S96x28672 : Shape := ⟨2, ![96, 28672]⟩
abbrev S12288x32 : Shape := ⟨2, ![12288, 32]⟩
abbrev S32x28672 : Shape := ⟨2, ![32, 28672]⟩
abbrev S28672 : Shape := ⟨1, ![28672]⟩
abbrev S96x1x28672 : Shape := ⟨3, ![96, 1, 28672]⟩
abbrev S6144x32 : Shape := ⟨2, ![6144, 32]⟩
abbrev S1x28672 : Shape := ⟨2, ![1, 28672]⟩
abbrev S12288x28672 : Shape := ⟨2, ![12288, 28672]⟩
abbrev S256x1024 : Shape := ⟨2, ![256, 1024]⟩
abbrev S4x1x1024 : Shape := ⟨3, ![4, 1, 1024]⟩
abbrev S256x32 : Shape := ⟨2, ![256, 32]⟩
abbrev S32x1024 : Shape := ⟨2, ![32, 1024]⟩
abbrev S1x1024 : Shape := ⟨2, ![1, 1024]⟩
abbrev S512x1024 : Shape := ⟨2, ![512, 1024]⟩
abbrev S64x1024 : Shape := ⟨2, ![64, 1024]⟩
abbrev S1x1x1024 : Shape := ⟨3, ![1, 1, 1024]⟩
abbrev S128x1024 : Shape := ⟨2, ![128, 1024]⟩
abbrev S1024 : Shape := ⟨1, ![1024]⟩
abbrev S6144x12288 : Shape := ⟨2, ![6144, 12288]⟩
abbrev S1024x4096 : Shape := ⟨2, ![1024, 4096]⟩
abbrev S4096x1024 : Shape := ⟨2, ![4096, 1024]⟩
abbrev S1024x1024 : Shape := ⟨2, ![1024, 1024]⟩
abbrev S2x3072x28672 : Shape := ⟨3, ![2, 3072, 28672]⟩

abbrev nBuf : Space → Nat
  | .hbm => 17
  | .vmem => 27
  | .smem => 0
  | _ => 0

abbrev bufTy : (tb : Table) → Fin (tcTables nBuf tb) → BufTy
  | .hbm, ⟨0, _⟩ => ⟨S2x3072x12288, .bf16⟩
  | .hbm, ⟨1, _⟩ => ⟨S6144x28672, .i8⟩
  | .hbm, ⟨2, _⟩ => ⟨S96x28672, .bf16⟩
  | .hbm, ⟨3, _⟩ => ⟨S12288x32, .bf16⟩
  | .hbm, ⟨4, _⟩ => ⟨S32x28672, .bf16⟩
  | .hbm, ⟨5, _⟩ => ⟨S28672, .f32⟩
  | .hbm, ⟨6, _⟩ => ⟨S96x1x28672, .bf16⟩
  | .hbm, ⟨7, _⟩ => ⟨S6144x32, .bf16⟩
  | .hbm, ⟨8, _⟩ => ⟨S6144x32, .bf16⟩
  | .hbm, ⟨9, _⟩ => ⟨S1x28672, .f32⟩
  | .hbm, ⟨10, _⟩ => ⟨S12288x28672, .bf16⟩
  | .hbm, ⟨11, _⟩ => ⟨S1x28672, .f32⟩
  | .hbm, ⟨12, _⟩ => ⟨S1x28672, .f32⟩
  | .hbm, ⟨13, _⟩ => ⟨S6144x12288, .bf16⟩
  | .hbm, ⟨14, _⟩ => ⟨S6144x28672, .bf16⟩
  | .hbm, ⟨15, _⟩ => ⟨S2x3072x28672, .bf16⟩
  | .hbm, ⟨16, _⟩ => ⟨S28672, .f32⟩
  | .local _ .vmem, ⟨0, _⟩ => ⟨S256x1024, .i8⟩
  | .local _ .vmem, ⟨1, _⟩ => ⟨S256x1024, .i8⟩
  | .local _ .vmem, ⟨2, _⟩ => ⟨S4x1x1024, .bf16⟩
  | .local _ .vmem, ⟨3, _⟩ => ⟨S4x1x1024, .bf16⟩
  | .local _ .vmem, ⟨4, _⟩ => ⟨S256x32, .bf16⟩
  | .local _ .vmem, ⟨5, _⟩ => ⟨S256x32, .bf16⟩
  | .local _ .vmem, ⟨6, _⟩ => ⟨S256x32, .bf16⟩
  | .local _ .vmem, ⟨7, _⟩ => ⟨S256x32, .bf16⟩
  | .local _ .vmem, ⟨8, _⟩ => ⟨S32x1024, .bf16⟩
  | .local _ .vmem, ⟨9, _⟩ => ⟨S32x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x4096, .bf16⟩
  | .local _ .vmem, ⟨19, _⟩ => ⟨S1024x4096, .bf16⟩
  | .local _ .vmem, ⟨20, _⟩ => ⟨S4096x1024, .bf16⟩
  | .local _ .vmem, ⟨21, _⟩ => ⟨S4096x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | _, _ => ⟨S2x3072x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [BitOps F]

abbrev grid0 : Pipeline.Grid := ⟨2, ![28, 24], ![false, false]⟩

def k0_cond2 (i : grid0.Coords) : BitVec 1 :=
  let arg1 : BitVec 32 := BitVec.ofNat 32 (i 1).val
  let c23_i32 : BitVec 32 := 23#32
  let v184 : BitVec 1 := Scalar.cmpi .eq arg1 c23_i32
  let v185 : BitVec 32 := Scalar.extui v184
  let c0_i32_68 : BitVec 32 := 0#32
  let v186 : BitVec 1 := Scalar.cmpi .ne v185 c0_i32_68
  v186

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨3, ![6, 28, 3], ![false, false, false]⟩

def k1_cond2 (i : grid1.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== KernelIdeal.lean ====
variable {F : FTy → Type} [FloatOps F]
-- ==== ReferenceIdeal.lean ====
abbrev S2x3072x12288 : Shape := ⟨3, ![2, 3072, 12288]⟩
abbrev S6144x28672 : Shape := ⟨2, ![6144, 28672]⟩
abbrev S96x28672 : Shape := ⟨2, ![96, 28672]⟩
abbrev S12288x32 : Shape := ⟨2, ![12288, 32]⟩
abbrev S32x28672 : Shape := ⟨2, ![32, 28672]⟩
abbrev S28672 : Shape := ⟨1, ![28672]⟩
abbrev S96x64x28672 : Shape := ⟨3, ![96, 64, 28672]⟩
abbrev S_ : Shape := ⟨0, ![]⟩
abbrev S6144x32 : Shape := ⟨2, ![6144, 32]⟩
abbrev S2x3072x6144 : Shape := ⟨3, ![2, 3072, 6144]⟩
abbrev S2x3072x28672 : Shape := ⟨3, ![2, 3072, 28672]⟩
abbrev S1x1x28672 : Shape := ⟨3, ![1, 1, 28672]⟩

abbrev nBuf : Space → Nat
  | .hbm => 70
  | .vmem => 0
  | .smem => 0
  | _ => 0

abbrev bufTy : (tb : Table) → Fin (tcTables nBuf tb) → BufTy
  | .hbm, ⟨0, _⟩ => ⟨S2x3072x12288, .bf16⟩
  | .hbm, ⟨1, _⟩ => ⟨S6144x28672, .i8⟩
  | .hbm, ⟨2, _⟩ => ⟨S96x28672, .bf16⟩
  | .hbm, ⟨3, _⟩ => ⟨S12288x32, .bf16⟩
  | .hbm, ⟨4, _⟩ => ⟨S32x28672, .bf16⟩
  | .hbm, ⟨5, _⟩ => ⟨S28672, .f32⟩
  | .hbm, ⟨6, _⟩ => ⟨S6144x28672, .i32⟩
  | .hbm, ⟨7, _⟩ => ⟨S96x64x28672, .bf16⟩
  | .hbm, ⟨8, _⟩ => ⟨S6144x28672, .bf16⟩
  | .hbm, ⟨9, _⟩ => ⟨S_, .i32⟩
  | .hbm, ⟨10, _⟩ => ⟨S6144x28672, .i32⟩
  | .hbm, ⟨11, _⟩ => ⟨S6144x28672, .i32⟩
  | .hbm, ⟨12, _⟩ => ⟨S6144x32, .bf16⟩
  | .hbm, ⟨13, _⟩ => ⟨S_, .i32⟩
  | .hbm, ⟨14, _⟩ => ⟨S6144x28672, .i32⟩
  | .hbm, ⟨15, _⟩ => ⟨S6144x28672, .i1⟩
  | .hbm, ⟨16, _⟩ => ⟨S_, .i32⟩
  | .hbm, ⟨17, _⟩ => ⟨S6144x28672, .i32⟩
  | .hbm, ⟨18, _⟩ => ⟨S6144x28672, .i32⟩
  | .hbm, ⟨19, _⟩ => ⟨S6144x28672, .i32⟩
  | .hbm, ⟨20, _⟩ => ⟨S6144x28672, .bf16⟩
  | .hbm, ⟨21, _⟩ => ⟨S6144x28672, .bf16⟩
  | .hbm, ⟨22, _⟩ => ⟨S6144x28672, .f32⟩
  | .hbm, ⟨23, _⟩ => ⟨S6144x28672, .f32⟩
  | .hbm, ⟨24, _⟩ => ⟨S_, .f32⟩
  | .hbm, ⟨25, _⟩ => ⟨S6144x28672, .f32⟩
  | .hbm, ⟨26, _⟩ => ⟨S6144x28672, .f32⟩
  | .hbm, ⟨27, _⟩ => ⟨S6144x28672, .f32⟩
  | .hbm, ⟨28, _⟩ => ⟨S_, .i32⟩
  | .hbm, ⟨29, _⟩ => ⟨S6144x28672, .i32⟩
  | .hbm, ⟨30, _⟩ => ⟨S6144x28672, .i32⟩
  | .hbm, ⟨31, _⟩ => ⟨S_, .i32⟩
  | .hbm, ⟨32, _⟩ => ⟨S6144x28672, .i32⟩
  | .hbm, ⟨33, _⟩ => ⟨S6144x28672, .i32⟩
  | .hbm, ⟨34, _⟩ => ⟨S6144x32, .bf16⟩
  | .hbm, ⟨35, _⟩ => ⟨S_, .i32⟩
  | .hbm, ⟨36, _⟩ => ⟨S6144x28672, .i32⟩
  | .hbm, ⟨37, _⟩ => ⟨S6144x28672, .i1⟩
  | .hbm, ⟨38, _⟩ => ⟨S_, .i32⟩
  | .hbm, ⟨39, _⟩ => ⟨S6144x28672, .i32⟩
  | .hbm, ⟨40, _⟩ => ⟨S6144x28672, .i32⟩
  | .hbm, ⟨41, _⟩ => ⟨S6144x28672, .i32⟩
  | .hbm, ⟨42, _⟩ => ⟨S6144x28672, .bf16⟩
  | .hbm, ⟨43, _⟩ => ⟨S6144x28672, .bf16⟩
  | .hbm, ⟨44, _⟩ => ⟨S6144x28672, .f32⟩
  | .hbm, ⟨45, _⟩ => ⟨S6144x28672, .f32⟩
  | .hbm, ⟨46, _⟩ => ⟨S_, .f32⟩
  | .hbm, ⟨47, _⟩ => ⟨S6144x28672, .f32⟩
  | .hbm, ⟨48, _⟩ => ⟨S6144x28672, .f32⟩
  | .hbm, ⟨49, _⟩ => ⟨S6144x28672, .f32⟩
  | .hbm, ⟨50, _⟩ => ⟨S6144x28672, .f32⟩
  | .hbm, ⟨51, _⟩ => ⟨S_, .f32⟩
  | .hbm, ⟨52, _⟩ => ⟨S28672, .f32⟩
  | .hbm, ⟨53, _⟩ => ⟨S6144x28672, .f32⟩
  | .hbm, ⟨54, _⟩ => ⟨S_, .f32⟩
  | .hbm, ⟨55, _⟩ => ⟨S28672, .f32⟩
  | .hbm, ⟨56, _⟩ => ⟨S28672, .f32⟩
  | .hbm, ⟨57, _⟩ => ⟨S28672, .f32⟩
  | .hbm, ⟨58, _⟩ => ⟨S2x3072x6144, .bf16⟩
  | .hbm, ⟨59, _⟩ => ⟨S6144x28672, .bf16⟩
  | .hbm, ⟨60, _⟩ => ⟨S2x3072x28672, .f32⟩
  | .hbm, ⟨61, _⟩ => ⟨S2x3072x6144, .bf16⟩
  | .hbm, ⟨62, _⟩ => ⟨S6144x28672, .bf16⟩
  | .hbm, ⟨63, _⟩ => ⟨S2x3072x28672, .f32⟩
  | .hbm, ⟨64, _⟩ => ⟨S2x3072x28672, .f32⟩
  | .hbm, ⟨65, _⟩ => ⟨S28672, .f32⟩
  | .hbm, ⟨66, _⟩ => ⟨S1x1x28672, .f32⟩
  | .hbm, ⟨67, _⟩ => ⟨S2x3072x28672, .f32⟩
  | .hbm, ⟨68, _⟩ => ⟨S2x3072x28672, .f32⟩
  | .hbm, ⟨69, _⟩ => ⟨S2x3072x28672, .bf16⟩
  | _, _ => ⟨S2x3072x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Proof.KernelWeight.lean ====
/- The first pallas_call of `Kernel` (the weights, their column norms and the output factor):
   its run in each case of its conditionals, what each output holds after each grid point, its proof data
   and its body obligation, at any contents of the buffers it is entered with. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator's structural look recurses once per coordinate
set_option maxRecDepth 16384

noncomputable section

namespace Cert.Kernel.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_dora_weight` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 24) — by arithmetic of the point. -/
theorem hcond0_0 : ∀ t : Fin cfg0.N, cond0_0 (grid0.coords t) ↔ t.val % 24 = 0 :=
  (fun t => by
    have ht : t.val < 672 := Nat.lt_of_lt_of_eq t.isLt N_0
    have e0 : (grid0.coords t 0).val = t.val / 24 % 28 := Pipeline.Grid.coords_val t 0 (by decide) rfl
    have e1 : (grid0.coords t 1).val = t.val / 1 % 24 := Pipeline.Grid.coords_val t 1 (by decide) rfl
    simp only [cond0_0, e0, e1]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the points ≡ 23 (mod 24) — by arithmetic of the point. -/
theorem hcond0_1 : ∀ t : Fin cfg0.N, cond0_1 (grid0.coords t) ↔ t.val % 24 = 23 :=
  (fun t => by
    have ht : t.val < 672 := Nat.lt_of_lt_of_eq t.isLt N_0
    have e0 : (grid0.coords t 0).val = t.val / 24 % 28 := Pipeline.Grid.coords_val t 0 (by decide) rfl
    have e1 : (grid0.coords t 1).val = t.val / 1 % 24 := Pipeline.Grid.coords_val t 1 (by decide) rfl
    simp only [cond0_1, k0_cond2, e0, e1]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S512x1024 .bf16 := (Memref.whole cc0_stg6_0 : Memref sig .tc .vmem S512x1024 .bf16).view
/-- One staging buffer of output window 7, through which its contents are stated (`View.read_writes_of_cover`: the
    choice does not matter). -/
abbrev VO0_7 : View sig .tc .vmem S1x1024 .f32 := (Memref.whole cc0_stg7_0 : Memref sig .tc .vmem S1x1024 .f32).view
/-- One staging buffer of output window 8, through which its contents are stated (`View.read_writes_of_cover`: the
    choice does not matter). -/
abbrev VO0_8 : View sig .tc .vmem S1x1024 .f32 := (Memref.whole cc0_stg8_0 : Memref sig .tc .vmem S1x1024 .f32).view
/-- Each window's current staging memref at point `t`, spelled as the pipeline passes it (`bodyAt0`), and its wholeness. -/
abbrev ms0_0 (t : Fin cfg0.N) : Memref sig .tc .vmem S256x1024 .i8 := win0_0.stage (cfg0.slots t 0)
/-- The staging buffer of the codes is whole. -/
abbrev hs0_0 (t : Fin cfg0.N) : (ms0_0 t).IsWhole := hstage0_0 ((cfg0.slots t 0).cast nbuf0_0)
/-- The staging buffer of the scales at a grid point. -/
abbrev ms0_1 (t : Fin cfg0.N) : Memref sig .tc .vmem S4x1x1024 .bf16 := win0_1.stage (cfg0.slots t 1)
/-- The staging buffer of the scales is whole. -/
abbrev hs0_1 (t : Fin cfg0.N) : (ms0_1 t).IsWhole := hstage0_1 ((cfg0.slots t 1).cast nbuf0_1)
/-- The staging buffer of the even adapter rows at a grid point. -/
abbrev ms0_2 (t : Fin cfg0.N) : Memref sig .tc .vmem S256x32 .bf16 := win0_2.stage (cfg0.slots t 2)
/-- The staging buffer of the even adapter rows is whole. -/
abbrev hs0_2 (t : Fin cfg0.N) : (ms0_2 t).IsWhole := hstage0_2 ((cfg0.slots t 2).cast nbuf0_2)
/-- The staging buffer of the odd adapter rows at a grid point. -/
abbrev ms0_3 (t : Fin cfg0.N) : Memref sig .tc .vmem S256x32 .bf16 := win0_3.stage (cfg0.slots t 3)
/-- The staging buffer of the odd adapter rows is whole. -/
abbrev hs0_3 (t : Fin cfg0.N) : (ms0_3 t).IsWhole := hstage0_3 ((cfg0.slots t 3).cast nbuf0_3)
/-- The staging buffer of the adapter columns at a grid point. -/
abbrev ms0_4 (t : Fin cfg0.N) : Memref sig .tc .vmem S32x1024 .bf16 := win0_4.stage (cfg0.slots t 4)
/-- The staging buffer of the adapter columns is whole. -/
abbrev hs0_4 (t : Fin cfg0.N) : (ms0_4 t).IsWhole := hstage0_4 ((cfg0.slots t 4).cast nbuf0_4)
/-- The staging buffer of the magnitudes at a grid point. -/
abbrev ms0_5 (t : Fin cfg0.N) : Memref sig .tc .vmem S1x1024 .f32 := win0_5.stage (cfg0.slots t 5)
/-- The staging buffer of the magnitudes is whole. -/
abbrev hs0_5 (t : Fin cfg0.N) : (ms0_5 t).IsWhole := hstage0_5 ((cfg0.slots t 5).cast nbuf0_5)
/-- The staging buffer of the weights at a grid point. -/
abbrev ms0_6 (t : Fin cfg0.N) : Memref sig .tc .vmem S512x1024 .bf16 := win0_6.stage (cfg0.slots t 6)
/-- The staging buffer of the weights is whole. -/
abbrev hs0_6 (t : Fin cfg0.N) : (ms0_6 t).IsWhole := hstage0_6 ((cfg0.slots t 6).cast nbuf0_6)
/-- The staging buffer of the lengths at a grid point. -/
abbrev ms0_7 (t : Fin cfg0.N) : Memref sig .tc .vmem S1x1024 .f32 := win0_7.stage (cfg0.slots t 7)
/-- The staging buffer of the lengths is whole. -/
abbrev hs0_7 (t : Fin cfg0.N) : (ms0_7 t).IsWhole := hstage0_7 ((cfg0.slots t 7).cast nbuf0_7)
/-- The staging buffer of the factors at a grid point. -/
abbrev ms0_8 (t : Fin cfg0.N) : Memref sig .tc .vmem S1x1024 .f32 := win0_8.stage (cfg0.slots t 8)
/-- The staging buffer of the factors is whole. -/
abbrev hs0_8 (t : Fin cfg0.N) : (ms0_8 t).IsWhole := hstage0_8 ((cfg0.slots t 8).cast nbuf0_8)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 24, … 648: 28 of 672), WITH the
    proof that on whole staging memrefs — the inputs' at their contents, the outputs it leaves idle (8: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) :
    Σ' (L6 : List (View.Piece (Elt F) S512x1024 .bf16)), Σ' (L7 : List (View.Piece (Elt F) S1x1024 .f32)), { L8 : List (View.Piece (Elt F) S1x1024 .f32) //
      ∀ (xi8 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8) -∗ K ⟨⟩))
          ⊢ wp frame (wpE (defs₀ (F := F)) Variants.none c none) E (cc0_dora_weight i arg2 harg2 arg3 harg3 arg4 harg4 arg5 harg5 arg6 harg6 arg7 harg7 arg8 harg8 arg9 harg9 arg10 harg10) K } := by
  refine ⟨?_, ?_, [], fun xi8 E K => ?run⟩
  case run =>
    simp only [cc0_dora_weight_eq_skeleton]; unfold cc0_dora_weight_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact H8

/-- Case A's pieces for output 6 tile its block (4 stores of `S128x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S128x1024.size (by sl_kernel_rfl) y

/-- What case A leaves in output 6's staging buffer: its pieces read back over junk. -/
def out0_A_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- Case A's pieces for output 7 tile its block (2 stores of `S1x1024`, checked by the kernel's evaluation: Lib/Ring.lean `Piece.tiledL`, linear in the pieces, through a loop's `@[irreducible]` trip theorem too), so they cover it. -/
theorem cover0_A_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1x1024.size (by sl_kernel_rfl) y

/-- What case A leaves in output 7's staging buffer: its pieces read back over junk. -/
def out0_A_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) : Vec F S1x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5).2.1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) : Vec F S1x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 hc1 x0 x1 x2 x3 x4 x5).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 670: 616 of 672), WITH the
    proof that on whole staging memrefs — the inputs' at their contents, the outputs it reads before covering (7) at their running contents `xo·`, the outputs it leaves idle (8: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) :
    Σ' (L6 : List (View.Piece (Elt F) S512x1024 .bf16)), Σ' (L7 : List (View.Piece (Elt F) S1x1024 .f32)), { L8 : List (View.Piece (Elt F) S1x1024 .f32) //
      ∀ (xi8 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xi8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8) -∗ K ⟨⟩))
          ⊢ wp frame (wpE (defs₀ (F := F)) Variants.none c none) E (cc0_dora_weight i arg2 harg2 arg3 harg3 arg4 harg4 arg5 harg5 arg6 harg6 arg7 harg7 arg8 harg8 arg9 harg9 arg10 harg10) K } := by
  refine ⟨?_, ?_, [], fun xi8 E K => ?run⟩
  case run =>
    simp only [cc0_dora_weight_eq_skeleton]; unfold cc0_dora_weight_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact H8

/-- Case B's pieces for output 6 tile its block (4 stores of `S128x1024`, checked by the kernel's evaluation: Lib/Ring.lean `Piece.tiledL`, linear in the pieces, through a loop's `@[irreducible]` trip theorem too), so they cover it. -/
theorem cover0_B_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S512x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xo7).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xo7).1 S128x1024.size (by sl_kernel_rfl) y

/-- What case B leaves in output 6's staging buffer: its pieces read back over junk. -/
def out0_B_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S512x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xo7).1)

/-- Case B's pieces for output 7 tile its block (1 store of `S1x1024`, checked by the kernel's evaluation: Lib/Ring.lean `Piece.tiledL`, linear in the pieces, through a loop's `@[irreducible]` trip theorem too), so they cover it. -/
theorem cover0_B_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xo7).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xo7).2.1 S1x1024.size (by sl_kernel_rfl) y

/-- What case B leaves in output 7's staging buffer: its pieces read back over junk. -/
def out0_B_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 xo7).2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 hc1 x0 x1 x2 x3 x4 x5 xo7).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23, 47, … 671: 28 of 672), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) :
    Σ' (L6 : List (View.Piece (Elt F) S512x1024 .bf16)), Σ' (L7 : List (View.Piece (Elt F) S1x1024 .f32)), { L8 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_dora_weight i arg2 harg2 arg3 harg3 arg4 harg4 arg5 harg5 arg6 harg6 arg7 harg7 arg8 harg8 arg9 harg9 arg10 harg10) K } := by
  refine ⟨?_, ?_, ?_, fun E K => ?run⟩
  case run =>
    simp only [cc0_dora_weight_eq_skeleton]; unfold cc0_dora_weight_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

/-- Case C's pieces for output 6 tile its block (4 stores of `S128x1024`, checked by the kernel's evaluation: Lib/Ring.lean `Piece.tiledL`, linear in the pieces, through a loop's `@[irreducible]` trip theorem too), so they cover it. -/
theorem cover0_C_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S512x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo7).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo7).1 S128x1024.size (by sl_kernel_rfl) y

/-- What case C leaves in output 6's staging buffer: its pieces read back over junk. -/
def out0_C_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S512x1024 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xo7).1)

/-- Case C's pieces for output 7 tile its block (2 stores of `S1x1024`, checked by the kernel's evaluation: Lib/Ring.lean `Piece.tiledL`, linear in the pieces, through a loop's `@[irreducible]` trip theorem too), so they cover it. -/
theorem cover0_C_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo7).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo7).2.1 S1x1024.size (by sl_kernel_rfl) y

/-- What case C leaves in output 7's staging buffer: its pieces read back over junk. -/
def out0_C_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xo7).2.1)

/-- Case C's pieces for output 8 tile its block (1 store of `S1x1024`, checked by the kernel's evaluation: Lib/Ring.lean `Piece.tiledL`, linear in the pieces, through a loop's `@[irreducible]` trip theorem too), so they cover it. -/
theorem cover0_C_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo7).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo7).2.2.1 S1x1024.size (by sl_kernel_rfl) y

/-- What case C leaves in output 8's staging buffer: its pieces read back over junk. -/
def out0_C_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 hc0 hc1 x0 x1 x2 x3 x4 x5 xo7).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S1x1024 .f32 × Vec F S1x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 24 = 0 then
      if h1 : (n + 1) % 24 = 23 then
        False.elim (by have hN : n + 1 < 672 := lt_of_lt_of_eq hn (show cfg0.N = 672 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 24 = 23 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1)

/-- `outsAt0` at a point of case A: that case's contents. -/
theorem outsAt0_A (c : Dev nD) (t : Fin cfg0.N) (h0 : t.val % 24 = 0) (h1 : ¬t.val % 24 = 23) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 24 = 0) (h1 : ¬t.val % 24 = 23) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 24 = 0) (h1 : t.val % 24 = 23) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- The staged block of the scales after a grid point. -/
theorem after0_1 (c : Dev nD) (t : Fin cfg0.N) : (dat0 V c).after 1 t = iblk0 V c 1 t := by dsimp only [dat0]
/-- The staged block of the even adapter rows after a grid point. -/
theorem after0_2 (c : Dev nD) (t : Fin cfg0.N) : (dat0 V c).after 2 t = iblk0 V c 2 t := by dsimp only [dat0]
/-- The staged block of the odd adapter rows after a grid point. -/
theorem after0_3 (c : Dev nD) (t : Fin cfg0.N) : (dat0 V c).after 3 t = iblk0 V c 3 t := by dsimp only [dat0]
/-- The staged block of the adapter columns after a grid point. -/
theorem after0_4 (c : Dev nD) (t : Fin cfg0.N) : (dat0 V c).after 4 t = iblk0 V c 4 t := by dsimp only [dat0]
/-- The staged block of the magnitudes after a grid point. -/
theorem after0_5 (c : Dev nD) (t : Fin cfg0.N) : (dat0 V c).after 5 t = iblk0 V c 5 t := by dsimp only [dat0]
/-- The staged block of the weights after a grid point. -/
theorem after0_6 (c : Dev nD) (t : Fin cfg0.N) : (dat0 V c).after 6 t = (outsAt0 V c t.val t.isLt).1 := by dsimp only [dat0]
/-- The staged block of the lengths after a grid point. -/
theorem after0_7 (c : Dev nD) (t : Fin cfg0.N) : (dat0 V c).after 7 t = (outsAt0 V c t.val t.isLt).2.1 := by dsimp only [dat0]
/-- The staged block of the factors after a grid point. -/
theorem after0_8 (c : Dev nD) (t : Fin cfg0.N) : (dat0 V c).after 8 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- The staged block of the scales before a grid point. -/
theorem before0_1 (c : Dev nD) (t : Fin cfg0.N) (d) : (dat0 V c).before 1 t d = iblk0 V c 1 t :=
  before0_1_of V (dat0 V c) (A_eq0 V c 1) (after0_1 V c) t d
/-- The staged block of the even adapter rows before a grid point. -/
theorem before0_2 (c : Dev nD) (t : Fin cfg0.N) (d) : (dat0 V c).before 2 t d = iblk0 V c 2 t :=
  before0_2_of V (dat0 V c) (A_eq0 V c 2) (after0_2 V c) t d
/-- The staged block of the odd adapter rows before a grid point. -/
theorem before0_3 (c : Dev nD) (t : Fin cfg0.N) (d) : (dat0 V c).before 3 t d = iblk0 V c 3 t :=
  before0_3_of V (dat0 V c) (A_eq0 V c 3) (after0_3 V c) t d
/-- The staged block of the adapter columns before a grid point. -/
theorem before0_4 (c : Dev nD) (t : Fin cfg0.N) (d) : (dat0 V c).before 4 t d = iblk0 V c 4 t :=
  before0_4_of V (dat0 V c) (A_eq0 V c 4) (after0_4 V c) t d
/-- The staged block of the magnitudes before a grid point. -/
theorem before0_5 (c : Dev nD) (t : Fin cfg0.N) (d) : (dat0 V c).before 5 t d = iblk0 V c 5 t :=
  before0_5_of V (dat0 V c) (A_eq0 V c 5) (after0_5 V c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 24 = 0) (h1 : ¬t.val % 24 = 23) (d) :
    (dat0 V c).before 7 t d = (outsAt0 V c (t.val - 1) (Nat.lt_of_le_of_lt (Nat.sub_le _ _) t.isLt)).2.1 := by
  have hN : t.val < 672 := lt_of_lt_of_eq t.isLt (show cfg0.N = 672 from N_0)
  rw [Dat.before_out_kept _ 7 rfl t (by omega) (Bool.eq_false_iff.mpr fun h => by have := (flush0_7 _).mp h; dsimp only at this; omega)
    (fun _ => rfl) (fun _ _ => rfl)]
  dsimp only [dat0]
/-- At a point of case C output 7's current staging buffer holds what the body left at the point before: the point is
    not the first, the buffer was not written back between (`flush0_7`), the window is live and uncut (Lib/Pipeline/Frame.lean
    `Dat.before_out_kept`). -/
theorem before0_7_C (c : Dev nD) (t : Fin cfg0.N) (h0 : ¬t.val % 24 = 0) (h1 : t.val % 24 = 23) (d) :
    (dat0 V c).before 7 t d = (outsAt0 V c (t.val - 1) (Nat.lt_of_le_of_lt (Nat.sub_le _ _) t.isLt)).2.1 := by
  have hN : t.val < 672 := lt_of_lt_of_eq t.isLt (show cfg0.N = 672 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl]
  have hN : t.val < 672 := lt_of_lt_of_eq t.isLt (show cfg0.N = 672 from N_0)
  by_cases h0 : t.val % 24 = 0
  · by_cases h1 : t.val % 24 = 23
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      iintro ⟨H0, H1, H2, H3, H4, H5, ⟨%e6, H6⟩, ⟨%e7, H7⟩, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _)
      iexists _; iexact H8
  · by_cases h1 : t.val % 24 = 23
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_C t (fun h => h0 ((hcond0_0 t).mp h)) ((hcond0_1 t).mpr h1)], after0_8]
      rw [outsAt0_C V c t h0 h1]
      simp only [before0_7_C V c t h0 h1]
      unfold out0_C_6 out0_C_7 out0_C_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      iintro ⟨H0, H1, H2, H3, H4, H5, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      simp only [before0_7_B V c t h0 h1]
      unfold out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      iintro ⟨H0, H1, H2, H3, H4, H5, ⟨%e6, H6⟩, ⟨%e7, H7⟩, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _)
      iexists _; iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Gen.Whole

end
-- ==== Proof.KernelMatmul.lean ====
/- The second pallas_call of `Kernel` (the product of the inputs with the weights): its run in each case
   of its conditionals, what the accumulator and the output hold after each grid point, its proof data and
   its body obligation, at any contents of the buffers it is entered with. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelWeight

@[expose] public section

-- membership in a rectangle of production extents: the elaborator's structural look recurses once per coordinate
set_option maxRecDepth 16384

noncomputable section

namespace Cert.Kernel.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_dora_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 3) — by arithmetic of the point. -/
theorem hcond1_0 : ∀ t : Fin cfg1.N, cond1_0 (grid1.coords t) ↔ t.val % 3 = 0 :=
  (fun t => by
    have ht : t.val < 504 := Nat.lt_of_lt_of_eq t.isLt N_1
    have e0 : (grid1.coords t 0).val = t.val / 84 % 6 := Pipeline.Grid.coords_val t 0 (by decide) rfl
    have e1 : (grid1.coords t 1).val = t.val / 3 % 28 := Pipeline.Grid.coords_val t 1 (by decide) rfl
    have e2 : (grid1.coords t 2).val = t.val / 1 % 3 := Pipeline.Grid.coords_val t 2 (by decide) rfl
    simp only [cond1_0, e0, e1, e2]
    word_cmp
   : ∀ t : Fin grid1.N, cond1_0 (grid1.coords t) ↔ t.val % 3 = 0)

/-- The condition of the body's `scf.if` 1 (`k1_h2`), from the grid coordinates (the skeleton's scalar
    chain substituted). -/
abbrev cond1_1 (i : grid1.Coords) : Prop := k1_cond2 i = 1#1
/-- It holds at the points ≡ 2 (mod 3) — by arithmetic of the point. -/
theorem hcond1_1 : ∀ t : Fin cfg1.N, cond1_1 (grid1.coords t) ↔ t.val % 3 = 2 :=
  (fun t => by
    have ht : t.val < 504 := Nat.lt_of_lt_of_eq t.isLt N_1
    have e0 : (grid1.coords t 0).val = t.val / 84 % 6 := Pipeline.Grid.coords_val t 0 (by decide) rfl
    have e1 : (grid1.coords t 1).val = t.val / 3 % 28 := Pipeline.Grid.coords_val t 1 (by decide) rfl
    have e2 : (grid1.coords t 2).val = t.val / 1 % 3 := Pipeline.Grid.coords_val t 2 (by decide) rfl
    simp only [cond1_1, k1_cond2, e0, e1, e2]
    word_cmp
   : ∀ t : Fin grid1.N, cond1_1 (grid1.coords t) ↔ t.val % 3 = 2)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1024x1024 .bf16 := (Memref.whole cc1_stg3_0 : Memref sig .tc .vmem S1024x1024 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
/-- The staging buffer of the activations is whole. -/
abbrev hs1_0 (t : Fin cfg1.N) : (ms1_0 t).IsWhole := hstage1_0 ((cfg1.slots t 0).cast nbuf1_0)
/-- The staging buffer of the weights at a grid point. -/
abbrev ms1_1 (t : Fin cfg1.N) : Memref sig .tc .vmem S4096x1024 .bf16 := win1_1.stage (cfg1.slots t 1)
/-- The staging buffer of the weights is whole. -/
abbrev hs1_1 (t : Fin cfg1.N) : (ms1_1 t).IsWhole := hstage1_1 ((cfg1.slots t 1).cast nbuf1_1)
/-- The staging buffer of the factors at a grid point. -/
abbrev ms1_2 (t : Fin cfg1.N) : Memref sig .tc .vmem S1x1024 .f32 := win1_2.stage (cfg1.slots t 2)
/-- The staging buffer of the factors is whole. -/
abbrev hs1_2 (t : Fin cfg1.N) : (ms1_2 t).IsWhole := hstage1_2 ((cfg1.slots t 2).cast nbuf1_2)
/-- The staging buffer of the products at a grid point. -/
abbrev ms1_3 (t : Fin cfg1.N) : Memref sig .tc .vmem S1024x1024 .bf16 := win1_3.stage (cfg1.slots t 3)
/-- The staging buffer of the products is whole. -/
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1024x1024 .f32 := Memref.whole cc1_scratch0
/-- The scratch `arg7` the kernel carries between points, as a view: what it holds is stated through it. -/
abbrev VS1_0 : View sig .tc .vmem S1024x1024 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 3, … 501: 168 of 504), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_dora_matmul i arg3 harg3 arg4 harg4 arg5 harg5 arg6 harg6 arg7 harg7) K } := by
  refine ⟨[], ?_, fun xi3 E K => ?run⟩
  case run =>
    simp only [cc1_dora_matmul_eq_skeleton]; unfold cc1_dora_matmul_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case A stores nothing into output 3 (the window is idle at its points and not written back there):
    no pieces — a placeholder (junk read back) that nothing consults, since at these points the window is neither
    written back nor read at the next point (Lib/Pipeline.lean "Idle points"). -/
def out1_A_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) : Vec F S1024x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case A's pieces for scratch `arg7`, which the kernel carries between points, cover it: 2 pieces of `S1024x1024` tiling it (Lib/Ring.lean `Piece.tiledL`). -/
theorem scover1_A_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in scratch `arg7`: its pieces read back over junk. -/
def sout1_A_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 4, … 502: 168 of 504), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_dora_matmul i arg3 harg3 arg4 harg4 arg5 harg5 arg6 harg6 arg7 harg7) K } := by
  refine ⟨[], ?_, fun xi3 E K => ?run⟩
  case run =>
    simp only [cc1_dora_matmul_eq_skeleton]; unfold cc1_dora_matmul_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case B stores nothing into output 3 (the window is idle at its points and not written back there):
    no pieces — a placeholder (junk read back) that nothing consults, since at these points the window is neither
    written back nor read at the next point (Lib/Pipeline.lean "Idle points"). -/
def out1_B_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) : Vec F S1024x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for scratch `arg7`, which the kernel carries between points, cover it: 1 piece of `S1024x1024` tiling it (Lib/Ring.lean `Piece.tiledL`). -/
theorem scover1_B_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in scratch `arg7`: its pieces read back over junk. -/
def sout1_B_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 2, 5, … 503: 168 of 504), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_dora_matmul i arg3 harg3 arg4 harg4 arg5 harg5 arg6 harg6 arg7 harg7) K } := by
  refine ⟨?_, ?_, fun E K => ?run⟩
  case run =>
    simp only [cc1_dora_matmul_eq_skeleton]; unfold cc1_dora_matmul_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- Case C's pieces for output 3 tile its block (1 store of `S1024x1024`, checked by the kernel's evaluation: Lib/Ring.lean `Piece.tiledL`, linear in the pieces, through a loop's `@[irreducible]` trip theorem too), so they cover it. -/
theorem cover1_C_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in output 3's staging buffer: its pieces read back over junk. -/
def out1_C_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) : Vec F S1024x1024 .bf16 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for scratch `arg7`, which the kernel carries between points, cover it: 1 piece of `S1024x1024` tiling it (Lib/Ring.lean `Piece.tiledL`). -/
theorem scover1_C_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in scratch `arg7`: its pieces read back over junk. -/
def sout1_C_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 3 = 0 then
      if h1 : (n + 1) % 3 = 2 then
        False.elim (by have hN : n + 1 < 504 := lt_of_lt_of_eq hn (show cfg1.N = 504 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 3 = 2 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 3 = 0) (h1 : ¬t.val % 3 = 2) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 3 = 0) (h1 : ¬t.val % 3 = 2) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 3 = 0) (h1 : t.val % 3 = 2) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2)) ∗ (∃ r, prngReg c r))

/-- Before the first grid point the carried state is the one the launch starts from. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
/-- The staged block of the weights after a grid point. -/
theorem after1_1 (c : Dev nD) (t : Fin cfg1.N) : (dat1 V c).after 1 t = iblk1 V c 1 t := by dsimp only [dat1]
/-- The staged block of the factors after a grid point. -/
theorem after1_2 (c : Dev nD) (t : Fin cfg1.N) : (dat1 V c).after 2 t = iblk1 V c 2 t := by dsimp only [dat1]
/-- The staged block of the products after a grid point. -/
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- The staged block of the weights before a grid point. -/
theorem before1_1 (c : Dev nD) (t : Fin cfg1.N) (d) : (dat1 V c).before 1 t d = iblk1 V c 1 t :=
  before1_1_of V (dat1 V c) (A_eq1 V c 1) (after1_1 V c) t d
/-- The staged block of the factors before a grid point. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 504 := lt_of_lt_of_eq t.isLt (show cfg1.N = 504 from N_1)
  by_cases h0 : t.val % 3 = 0
  · by_cases h1 : t.val % 3 = 2
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        rw [outsAt1_A V c t h0 h1]
        unfold sout1_A_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 3 = 2
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      by_cases hz : t.val = 0
      · exfalso; have hN : t.val < 504 := lt_of_lt_of_eq t.isLt (show cfg1.N = 504 from N_1); omega
      · rw [PhiS_castSucc V c t, PhiS_pos V c _ _ hz]
        rw [outsAt1_C V c t h0 h1]
        unfold out1_C_3 sout1_C_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 504 := lt_of_lt_of_eq t.isLt (show cfg1.N = 504 from N_1); omega
      · rw [PhiS_castSucc V c t, PhiS_pos V c _ _ hz]
        rw [outsAt1_B V c t h0 h1]
        unfold sout1_B_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 504 := N_1; omega)

end Cert.Kernel.Gen.Whole

end
-- ==== Proof.KernelRun.lean ====
/- The whole run of `Kernel`: the two pallas_calls as regions between the host operations, the buffers'
   contents at each boundary, and the frame. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelMatmul

@[expose] public section

-- membership in a rectangle of production extents: the elaborator's structural look recurses once per coordinate
set_option maxRecDepth 16384

noncomputable section

namespace Cert.Kernel.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
/-- The buffers that the first stretch of host operations writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5]
/-- The buffers that the second stretch of host operations writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8]
/-- The buffers that the third stretch of host operations writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as they were at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as they were before the first launch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- After the first launch each of its arrays holds what the launch leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first launch leaves every other buffer alone. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as they were after the first launch. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The first launch leaves every buffer that is not one of its arrays alone. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as they were before the second launch. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- After the second launch each of its arrays holds what the launch leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- The second launch leaves every other buffer alone. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as they were after the second launch. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The second launch leaves every buffer that is not one of its arrays alone. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as they were at the end of the run. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- The activations are as they were at the end of the run. -/
theorem W5_main_arg0 (c : Dev nD) : W5 m ρ c (Proc.devRef .tc main_arg0) = m ((c : Thread nD τ).loc main_arg0) :=
  W5_args m ρ c main_arg0 (by decide)
/-- The codes are as they were at the end of the run. -/
theorem W5_main_arg1 (c : Dev nD) : W5 m ρ c (Proc.devRef .tc main_arg1) = m ((c : Thread nD τ).loc main_arg1) :=
  W5_args m ρ c main_arg1 (by decide)
/-- The scales are as they were at the end of the run. -/
theorem W5_main_arg2 (c : Dev nD) : W5 m ρ c (Proc.devRef .tc main_arg2) = m ((c : Thread nD τ).loc main_arg2) :=
  W5_args m ρ c main_arg2 (by decide)
/-- The first adapter factor is as it was at the end of the run. -/
theorem W5_main_arg3 (c : Dev nD) : W5 m ρ c (Proc.devRef .tc main_arg3) = m ((c : Thread nD τ).loc main_arg3) :=
  W5_args m ρ c main_arg3 (by decide)
/-- The second adapter factor is as it was at the end of the run. -/
theorem W5_main_arg4 (c : Dev nD) : W5 m ρ c (Proc.devRef .tc main_arg4) = m ((c : Thread nD τ).loc main_arg4) :=
  W5_args m ρ c main_arg4 (by decide)
/-- The magnitudes are as they were at the end of the run. -/
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop variants are needed. -/
abbrev 𝒱₀ : Variants := Variants.none
/-- No core owes another anything: no level is assigned. -/
abbrev L : GSem nD τ sig → Finset Unit := fun _ => ∅
/-- Every semaphore has level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V3 m ρ) c
    rw [show (pdats m ρ 1 c).Φ 0 = (dat1 (V3 m ρ) c).Φ 0 from rfl]
    unfold Pipeline.ΦA at h
    iintro ⟨Hp, -, Hr⟩
    iapply h
    isplitl [Hr]; · iexact Hr
    iexact Hp
  hout c := by
    have h := hout (V3 m ρ) c
    rw [Pipeline.ownSems0_none, show (pdats m ρ 1 c).Φ (Fin.last _) = (dat1 (V3 m ρ) c).Φ (Fin.last cfg1.N) from rfl]
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates,
    nothing faulting, and every final state has every unscoped buffer at the last boundary's contents `W5` and every
    semaphore counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩, h.2⟩) (run_main m ρ)

end Cert.Kernel.Gen.Whole

end
-- ==== Proof.KernelIdealWeight.lean ====
/- The first pallas_call of `KernelIdeal` (the weights, their column norms and the output factor):
   its run in each case of its conditionals, what each output holds after each grid point, its proof data
   and its body obligation, at any contents of the buffers it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator's structural look recurses once per coordinate
set_option maxRecDepth 16384

noncomputable section

namespace Cert.KernelIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_dora_weight` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 24) — by arithmetic of the point. -/
theorem hcond0_0 : ∀ t : Fin cfg0.N, cond0_0 (grid0.coords t) ↔ t.val % 24 = 0 :=
  (fun t => by
    have ht : t.val < 672 := Nat.lt_of_lt_of_eq t.isLt N_0
    have e0 : (grid0.coords t 0).val = t.val / 24 % 28 := Pipeline.Grid.coords_val t 0 (by decide) rfl
    have e1 : (grid0.coords t 1).val = t.val / 1 % 24 := Pipeline.Grid.coords_val t 1 (by decide) rfl
    simp only [cond0_0, e0, e1]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the points ≡ 23 (mod 24) — by arithmetic of the point. -/
theorem hcond0_1 : ∀ t : Fin cfg0.N, cond0_1 (grid0.coords t) ↔ t.val % 24 = 23 :=
  (fun t => by
    have ht : t.val < 672 := Nat.lt_of_lt_of_eq t.isLt N_0
    have e0 : (grid0.coords t 0).val = t.val / 24 % 28 := Pipeline.Grid.coords_val t 0 (by decide) rfl
    have e1 : (grid0.coords t 1).val = t.val / 1 % 24 := Pipeline.Grid.coords_val t 1 (by decide) rfl
    simp only [cond0_1, k0_cond2, e0, e1]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S512x1024 .bf16 := (Memref.whole cc0_stg6_0 : Memref sig .tc .vmem S512x1024 .bf16).view
/-- One staging buffer of output window 7, through which its contents are stated (`View.read_writes_of_cover`: the
    choice does not matter). -/
abbrev VO0_7 : View sig .tc .vmem S1x1024 .f32 := (Memref.whole cc0_stg7_0 : Memref sig .tc .vmem S1x1024 .f32).view
/-- One staging buffer of output window 8, through which its contents are stated (`View.read_writes_of_cover`: the
    choice does not matter). -/
abbrev VO0_8 : View sig .tc .vmem S1x1024 .f32 := (Memref.whole cc0_stg8_0 : Memref sig .tc .vmem S1x1024 .f32).view
/-- Each window's current staging memref at point `t`, spelled as the pipeline passes it (`bodyAt0`), and its wholeness. -/
abbrev ms0_0 (t : Fin cfg0.N) : Memref sig .tc .vmem S256x1024 .i8 := win0_0.stage (cfg0.slots t 0)
/-- The staging buffer of the codes is whole. -/
abbrev hs0_0 (t : Fin cfg0.N) : (ms0_0 t).IsWhole := hstage0_0 ((cfg0.slots t 0).cast nbuf0_0)
/-- The staging buffer of the scales at a grid point. -/
abbrev ms0_1 (t : Fin cfg0.N) : Memref sig .tc .vmem S4x1x1024 .bf16 := win0_1.stage (cfg0.slots t 1)
/-- The staging buffer of the scales is whole. -/
abbrev hs0_1 (t : Fin cfg0.N) : (ms0_1 t).IsWhole := hstage0_1 ((cfg0.slots t 1).cast nbuf0_1)
/-- The staging buffer of the even adapter rows at a grid point. -/
abbrev ms0_2 (t : Fin cfg0.N) : Memref sig .tc .vmem S256x32 .bf16 := win0_2.stage (cfg0.slots t 2)
/-- The staging buffer of the even adapter rows is whole. -/
abbrev hs0_2 (t : Fin cfg0.N) : (ms0_2 t).IsWhole := hstage0_2 ((cfg0.slots t 2).cast nbuf0_2)
/-- The staging buffer of the odd adapter rows at a grid point. -/
abbrev ms0_3 (t : Fin cfg0.N) : Memref sig .tc .vmem S256x32 .bf16 := win0_3.stage (cfg0.slots t 3)
/-- The staging buffer of the odd adapter rows is whole. -/
abbrev hs0_3 (t : Fin cfg0.N) : (ms0_3 t).IsWhole := hstage0_3 ((cfg0.slots t 3).cast nbuf0_3)
/-- The staging buffer of the adapter columns at a grid point. -/
abbrev ms0_4 (t : Fin cfg0.N) : Memref sig .tc .vmem S32x1024 .bf16 := win0_4.stage (cfg0.slots t 4)
/-- The staging buffer of the adapter columns is whole. -/
abbrev hs0_4 (t : Fin cfg0.N) : (ms0_4 t).IsWhole := hstage0_4 ((cfg0.slots t 4).cast nbuf0_4)
/-- The staging buffer of the magnitudes at a grid point. -/
abbrev ms0_5 (t : Fin cfg0.N) : Memref sig .tc .vmem S1x1024 .f32 := win0_5.stage (cfg0.slots t 5)
/-- The staging buffer of the magnitudes is whole. -/
abbrev hs0_5 (t : Fin cfg0.N) : (ms0_5 t).IsWhole := hstage0_5 ((cfg0.slots t 5).cast nbuf0_5)
/-- The staging buffer of the weights at a grid point. -/
abbrev ms0_6 (t : Fin cfg0.N) : Memref sig .tc .vmem S512x1024 .bf16 := win0_6.stage (cfg0.slots t 6)
/-- The staging buffer of the weights is whole. -/
abbrev hs0_6 (t : Fin cfg0.N) : (ms0_6 t).IsWhole := hstage0_6 ((cfg0.slots t 6).cast nbuf0_6)
/-- The staging buffer of the lengths at a grid point. -/
abbrev ms0_7 (t : Fin cfg0.N) : Memref sig .tc .vmem S1x1024 .f32 := win0_7.stage (cfg0.slots t 7)
/-- The staging buffer of the lengths is whole. -/
abbrev hs0_7 (t : Fin cfg0.N) : (ms0_7 t).IsWhole := hstage0_7 ((cfg0.slots t 7).cast nbuf0_7)
/-- The staging buffer of the factors at a grid point. -/
abbrev ms0_8 (t : Fin cfg0.N) : Memref sig .tc .vmem S1x1024 .f32 := win0_8.stage (cfg0.slots t 8)
/-- The staging buffer of the factors is whole. -/
abbrev hs0_8 (t : Fin cfg0.N) : (ms0_8 t).IsWhole := hstage0_8 ((cfg0.slots t 8).cast nbuf0_8)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 24, … 648: 28 of 672), WITH the
    proof that on whole staging memrefs — the inputs' at their contents, the outputs it leaves idle (8: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) :
    Σ' (L6 : List (View.Piece (Elt F) S512x1024 .bf16)), Σ' (L7 : List (View.Piece (Elt F) S1x1024 .f32)), { L8 : List (View.Piece (Elt F) S1x1024 .f32) //
      ∀ (xi8 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8) -∗ K ⟨⟩))
          ⊢ wp frame (wpE (defs₀ (F := F)) Variants.none c none) E (cc0_dora_weight i arg2 harg2 arg3 harg3 arg4 harg4 arg5 harg5 arg6 harg6 arg7 harg7 arg8 harg8 arg9 harg9 arg10 harg10) K } := by
  refine ⟨?_, ?_, [], fun xi8 E K => ?run⟩
  case run =>
    simp only [cc0_dora_weight_eq_skeleton]; unfold cc0_dora_weight_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact H8

/-- Case A's pieces for output 6 tile its block (4 stores of `S128x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (y : S512x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S128x1024.size (by sl_kernel_rfl) y

/-- What case A leaves in output 6's staging buffer: its pieces read back over junk. -/
def out0_A_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- Case A's pieces for output 7 tile its block (2 stores of `S1x1024`, checked by the kernel's evaluation: Lib/Ring.lean `Piece.tiledL`, linear in the pieces, through a loop's `@[irreducible]` trip theorem too), so they cover it. -/
theorem cover0_A_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1x1024.size (by sl_kernel_rfl) y

/-- What case A leaves in output 7's staging buffer: its pieces read back over junk. -/
def out0_A_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) : Vec F S1x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5).2.1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) : Vec F S1x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 hc1 x0 x1 x2 x3 x4 x5).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 670: 616 of 672), WITH the
    proof that on whole staging memrefs — the inputs' at their contents, the outputs it reads before covering (7) at their running contents `xo·`, the outputs it leaves idle (8: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) :
    Σ' (L6 : List (View.Piece (Elt F) S512x1024 .bf16)), Σ' (L7 : List (View.Piece (Elt F) S1x1024 .f32)), { L8 : List (View.Piece (Elt F) S1x1024 .f32) //
      ∀ (xi8 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xi8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8) -∗ K ⟨⟩))
          ⊢ wp frame (wpE (defs₀ (F := F)) Variants.none c none) E (cc0_dora_weight i arg2 harg2 arg3 harg3 arg4 harg4 arg5 harg5 arg6 harg6 arg7 harg7 arg8 harg8 arg9 harg9 arg10 harg10) K } := by
  refine ⟨?_, ?_, [], fun xi8 E K => ?run⟩
  case run =>
    simp only [cc0_dora_weight_eq_skeleton]; unfold cc0_dora_weight_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact H8

/-- Case B's pieces for output 6 tile its block (4 stores of `S128x1024`, checked by the kernel's evaluation: Lib/Ring.lean `Piece.tiledL`, linear in the pieces, through a loop's `@[irreducible]` trip theorem too), so they cover it. -/
theorem cover0_B_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S512x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xo7).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xo7).1 S128x1024.size (by sl_kernel_rfl) y

/-- What case B leaves in output 6's staging buffer: its pieces read back over junk. -/
def out0_B_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S512x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xo7).1)

/-- Case B's pieces for output 7 tile its block (1 store of `S1x1024`, checked by the kernel's evaluation: Lib/Ring.lean `Piece.tiledL`, linear in the pieces, through a loop's `@[irreducible]` trip theorem too), so they cover it. -/
theorem cover0_B_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xo7).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xo7).2.1 S1x1024.size (by sl_kernel_rfl) y

/-- What case B leaves in output 7's staging buffer: its pieces read back over junk. -/
def out0_B_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 xo7).2.1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 hc1 x0 x1 x2 x3 x4 x5 xo7).2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23, 47, … 671: 28 of 672), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) :
    Σ' (L6 : List (View.Piece (Elt F) S512x1024 .bf16)), Σ' (L7 : List (View.Piece (Elt F) S1x1024 .f32)), { L8 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_dora_weight i arg2 harg2 arg3 harg3 arg4 harg4 arg5 harg5 arg6 harg6 arg7 harg7 arg8 harg8 arg9 harg9 arg10 harg10) K } := by
  refine ⟨?_, ?_, ?_, fun E K => ?run⟩
  case run =>
    simp only [cc0_dora_weight_eq_skeleton]; unfold cc0_dora_weight_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

/-- Case C's pieces for output 6 tile its block (4 stores of `S128x1024`, checked by the kernel's evaluation: Lib/Ring.lean `Piece.tiledL`, linear in the pieces, through a loop's `@[irreducible]` trip theorem too), so they cover it. -/
theorem cover0_C_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S512x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo7).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo7).1 S128x1024.size (by sl_kernel_rfl) y

/-- What case C leaves in output 6's staging buffer: its pieces read back over junk. -/
def out0_C_6 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S512x1024 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xo7).1)

/-- Case C's pieces for output 7 tile its block (2 stores of `S1x1024`, checked by the kernel's evaluation: Lib/Ring.lean `Piece.tiledL`, linear in the pieces, through a loop's `@[irreducible]` trip theorem too), so they cover it. -/
theorem cover0_C_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo7).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo7).2.1 S1x1024.size (by sl_kernel_rfl) y

/-- What case C leaves in output 7's staging buffer: its pieces read back over junk. -/
def out0_C_7 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xo7).2.1)

/-- Case C's pieces for output 8 tile its block (1 store of `S1x1024`, checked by the kernel's evaluation: Lib/Ring.lean `Piece.tiledL`, linear in the pieces, through a loop's `@[irreducible]` trip theorem too), so they cover it. -/
theorem cover0_C_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo7).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo7).2.2.1 S1x1024.size (by sl_kernel_rfl) y

/-- What case C leaves in output 8's staging buffer: its pieces read back over junk. -/
def out0_C_8 (c : Dev nD) (i : grid0.Coords) (arg2 : Memref sig .tc .vmem S256x1024 .i8) (harg2 : arg2.IsWhole) (arg3 : Memref sig .tc .vmem S4x1x1024 .bf16) (harg3 : arg3.IsWhole) (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S256x1024 .i8) (x1 : Vec F S4x1x1024 .bf16) (x2 : Vec F S256x32 .bf16) (x3 : Vec F S256x32 .bf16) (x4 : Vec F S32x1024 .bf16) (x5 : Vec F S1x1024 .f32) (xo7 : Vec F S1x1024 .f32) : Vec F S1x1024 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 hc0 hc1 x0 x1 x2 x3 x4 x5 xo7).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S1x1024 .f32 × Vec F S1x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 24 = 0 then
      if h1 : (n + 1) % 24 = 23 then
        False.elim (by have hN : n + 1 < 672 := lt_of_lt_of_eq hn (show cfg0.N = 672 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 24 = 23 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1)

/-- `outsAt0` at a point of case A: that case's contents. -/
theorem outsAt0_A (c : Dev nD) (t : Fin cfg0.N) (h0 : t.val % 24 = 0) (h1 : ¬t.val % 24 = 23) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 24 = 0) (h1 : ¬t.val % 24 = 23) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 24 = 0) (h1 : t.val % 24 = 23) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- The staged block of the scales after a grid point. -/
theorem after0_1 (c : Dev nD) (t : Fin cfg0.N) : (dat0 V c).after 1 t = iblk0 V c 1 t := by dsimp only [dat0]
/-- The staged block of the even adapter rows after a grid point. -/
theorem after0_2 (c : Dev nD) (t : Fin cfg0.N) : (dat0 V c).after 2 t = iblk0 V c 2 t := by dsimp only [dat0]
/-- The staged block of the odd adapter rows after a grid point. -/
theorem after0_3 (c : Dev nD) (t : Fin cfg0.N) : (dat0 V c).after 3 t = iblk0 V c 3 t := by dsimp only [dat0]
/-- The staged block of the adapter columns after a grid point. -/
theorem after0_4 (c : Dev nD) (t : Fin cfg0.N) : (dat0 V c).after 4 t = iblk0 V c 4 t := by dsimp only [dat0]
/-- The staged block of the magnitudes after a grid point. -/
theorem after0_5 (c : Dev nD) (t : Fin cfg0.N) : (dat0 V c).after 5 t = iblk0 V c 5 t := by dsimp only [dat0]
/-- The staged block of the weights after a grid point. -/
theorem after0_6 (c : Dev nD) (t : Fin cfg0.N) : (dat0 V c).after 6 t = (outsAt0 V c t.val t.isLt).1 := by dsimp only [dat0]
/-- The staged block of the lengths after a grid point. -/
theorem after0_7 (c : Dev nD) (t : Fin cfg0.N) : (dat0 V c).after 7 t = (outsAt0 V c t.val t.isLt).2.1 := by dsimp only [dat0]
/-- The staged block of the factors after a grid point. -/
theorem after0_8 (c : Dev nD) (t : Fin cfg0.N) : (dat0 V c).after 8 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- The staged block of the scales before a grid point. -/
theorem before0_1 (c : Dev nD) (t : Fin cfg0.N) (d) : (dat0 V c).before 1 t d = iblk0 V c 1 t :=
  before0_1_of V (dat0 V c) (A_eq0 V c 1) (after0_1 V c) t d
/-- The staged block of the even adapter rows before a grid point. -/
theorem before0_2 (c : Dev nD) (t : Fin cfg0.N) (d) : (dat0 V c).before 2 t d = iblk0 V c 2 t :=
  before0_2_of V (dat0 V c) (A_eq0 V c 2) (after0_2 V c) t d
/-- The staged block of the odd adapter rows before a grid point. -/
theorem before0_3 (c : Dev nD) (t : Fin cfg0.N) (d) : (dat0 V c).before 3 t d = iblk0 V c 3 t :=
  before0_3_of V (dat0 V c) (A_eq0 V c 3) (after0_3 V c) t d
/-- The staged block of the adapter columns before a grid point. -/
theorem before0_4 (c : Dev nD) (t : Fin cfg0.N) (d) : (dat0 V c).before 4 t d = iblk0 V c 4 t :=
  before0_4_of V (dat0 V c) (A_eq0 V c 4) (after0_4 V c) t d
/-- The staged block of the magnitudes before a grid point. -/
theorem before0_5 (c : Dev nD) (t : Fin cfg0.N) (d) : (dat0 V c).before 5 t d = iblk0 V c 5 t :=
  before0_5_of V (dat0 V c) (A_eq0 V c 5) (after0_5 V c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 24 = 0) (h1 : ¬t.val % 24 = 23) (d) :
    (dat0 V c).before 7 t d = (outsAt0 V c (t.val - 1) (Nat.lt_of_le_of_lt (Nat.sub_le _ _) t.isLt)).2.1 := by
  have hN : t.val < 672 := lt_of_lt_of_eq t.isLt (show cfg0.N = 672 from N_0)
  rw [Dat.before_out_kept _ 7 rfl t (by omega) (Bool.eq_false_iff.mpr fun h => by have := (flush0_7 _).mp h; dsimp only at this; omega)
    (fun _ => rfl) (fun _ _ => rfl)]
  dsimp only [dat0]
/-- At a point of case C output 7's current staging buffer holds what the body left at the point before: the point is
    not the first, the buffer was not written back between (`flush0_7`), the window is live and uncut (Lib/Pipeline/Frame.lean
    `Dat.before_out_kept`). -/
theorem before0_7_C (c : Dev nD) (t : Fin cfg0.N) (h0 : ¬t.val % 24 = 0) (h1 : t.val % 24 = 23) (d) :
    (dat0 V c).before 7 t d = (outsAt0 V c (t.val - 1) (Nat.lt_of_le_of_lt (Nat.sub_le _ _) t.isLt)).2.1 := by
  have hN : t.val < 672 := lt_of_lt_of_eq t.isLt (show cfg0.N = 672 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl]
  have hN : t.val < 672 := lt_of_lt_of_eq t.isLt (show cfg0.N = 672 from N_0)
  by_cases h0 : t.val % 24 = 0
  · by_cases h1 : t.val % 24 = 23
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      iintro ⟨H0, H1, H2, H3, H4, H5, ⟨%e6, H6⟩, ⟨%e7, H7⟩, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _)
      iexists _; iexact H8
  · by_cases h1 : t.val % 24 = 23
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_C t (fun h => h0 ((hcond0_0 t).mp h)) ((hcond0_1 t).mpr h1)], after0_8]
      rw [outsAt0_C V c t h0 h1]
      simp only [before0_7_C V c t h0 h1]
      unfold out0_C_6 out0_C_7 out0_C_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      iintro ⟨H0, H1, H2, H3, H4, H5, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      simp only [before0_7_B V c t h0 h1]
      unfold out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      iintro ⟨H0, H1, H2, H3, H4, H5, ⟨%e6, H6⟩, ⟨%e7, H7⟩, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _)
      iexists _; iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen.Whole

end
-- ==== Proof.KernelIdealMatmul.lean ====
/- The second pallas_call of `KernelIdeal` (the product of the inputs with the weights): its run in each case
   of its conditionals, what the accumulator and the output hold after each grid point, its proof data and
   its body obligation, at any contents of the buffers it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdealWeight

@[expose] public section

-- membership in a rectangle of production extents: the elaborator's structural look recurses once per coordinate
set_option maxRecDepth 16384

noncomputable section

namespace Cert.KernelIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_dora_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 3) — by arithmetic of the point. -/
theorem hcond1_0 : ∀ t : Fin cfg1.N, cond1_0 (grid1.coords t) ↔ t.val % 3 = 0 :=
  (fun t => by
    have ht : t.val < 504 := Nat.lt_of_lt_of_eq t.isLt N_1
    have e0 : (grid1.coords t 0).val = t.val / 84 % 6 := Pipeline.Grid.coords_val t 0 (by decide) rfl
    have e1 : (grid1.coords t 1).val = t.val / 3 % 28 := Pipeline.Grid.coords_val t 1 (by decide) rfl
    have e2 : (grid1.coords t 2).val = t.val / 1 % 3 := Pipeline.Grid.coords_val t 2 (by decide) rfl
    simp only [cond1_0, e0, e1, e2]
    word_cmp
   : ∀ t : Fin grid1.N, cond1_0 (grid1.coords t) ↔ t.val % 3 = 0)

/-- The condition of the body's `scf.if` 1 (`k1_h2`), from the grid coordinates (the skeleton's scalar
    chain substituted). -/
abbrev cond1_1 (i : grid1.Coords) : Prop := k1_cond2 i = 1#1
/-- It holds at the points ≡ 2 (mod 3) — by arithmetic of the point. -/
theorem hcond1_1 : ∀ t : Fin cfg1.N, cond1_1 (grid1.coords t) ↔ t.val % 3 = 2 :=
  (fun t => by
    have ht : t.val < 504 := Nat.lt_of_lt_of_eq t.isLt N_1
    have e0 : (grid1.coords t 0).val = t.val / 84 % 6 := Pipeline.Grid.coords_val t 0 (by decide) rfl
    have e1 : (grid1.coords t 1).val = t.val / 3 % 28 := Pipeline.Grid.coords_val t 1 (by decide) rfl
    have e2 : (grid1.coords t 2).val = t.val / 1 % 3 := Pipeline.Grid.coords_val t 2 (by decide) rfl
    simp only [cond1_1, k1_cond2, e0, e1, e2]
    word_cmp
   : ∀ t : Fin grid1.N, cond1_1 (grid1.coords t) ↔ t.val % 3 = 2)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1024x1024 .bf16 := (Memref.whole cc1_stg3_0 : Memref sig .tc .vmem S1024x1024 .bf16).view
/-- Each window's current staging memref at point `t`, spelled as the pipeline passes it (`bodyAt1`), and its wholeness. -/
abbrev ms1_0 (t : Fin cfg1.N) : Memref sig .tc .vmem S1024x4096 .bf16 := win1_0.stage (cfg1.slots t 0)
/-- The staging buffer of the activations is whole. -/
abbrev hs1_0 (t : Fin cfg1.N) : (ms1_0 t).IsWhole := hstage1_0 ((cfg1.slots t 0).cast nbuf1_0)
/-- The staging buffer of the weights at a grid point. -/
abbrev ms1_1 (t : Fin cfg1.N) : Memref sig .tc .vmem S4096x1024 .bf16 := win1_1.stage (cfg1.slots t 1)
/-- The staging buffer of the weights is whole. -/
abbrev hs1_1 (t : Fin cfg1.N) : (ms1_1 t).IsWhole := hstage1_1 ((cfg1.slots t 1).cast nbuf1_1)
/-- The staging buffer of the factors at a grid point. -/
abbrev ms1_2 (t : Fin cfg1.N) : Memref sig .tc .vmem S1x1024 .f32 := win1_2.stage (cfg1.slots t 2)
/-- The staging buffer of the factors is whole. -/
abbrev hs1_2 (t : Fin cfg1.N) : (ms1_2 t).IsWhole := hstage1_2 ((cfg1.slots t 2).cast nbuf1_2)
/-- The staging buffer of the products at a grid point. -/
abbrev ms1_3 (t : Fin cfg1.N) : Memref sig .tc .vmem S1024x1024 .bf16 := win1_3.stage (cfg1.slots t 3)
/-- The staging buffer of the products is whole. -/
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1024x1024 .f32 := Memref.whole cc1_scratch0
/-- The scratch `arg7` the kernel carries between points, as a view: what it holds is stated through it. -/
abbrev VS1_0 : View sig .tc .vmem S1024x1024 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 3, … 501: 168 of 504), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_dora_matmul i arg3 harg3 arg4 harg4 arg5 harg5 arg6 harg6 arg7 harg7) K } := by
  refine ⟨[], ?_, fun xi3 E K => ?run⟩
  case run =>
    simp only [cc1_dora_matmul_eq_skeleton]; unfold cc1_dora_matmul_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case A stores nothing into output 3 (the window is idle at its points and not written back there):
    no pieces — a placeholder (junk read back) that nothing consults, since at these points the window is neither
    written back nor read at the next point (Lib/Pipeline.lean "Idle points"). -/
def out1_A_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) : Vec F S1024x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case A's pieces for scratch `arg7`, which the kernel carries between points, cover it: 2 pieces of `S1024x1024` tiling it (Lib/Ring.lean `Piece.tiledL`). -/
theorem scover1_A_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in scratch `arg7`: its pieces read back over junk. -/
def sout1_A_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x4096 .bf16) (x1 : Vec F S4096x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 4, … 502: 168 of 504), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_dora_matmul i arg3 harg3 arg4 harg4 arg5 harg5 arg6 harg6 arg7 harg7) K } := by
  refine ⟨[], ?_, fun xi3 E K => ?run⟩
  case run =>
    simp only [cc1_dora_matmul_eq_skeleton]; unfold cc1_dora_matmul_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- Case B stores nothing into output 3 (the window is idle at its points and not written back there):
    no pieces — a placeholder (junk read back) that nothing consults, since at these points the window is neither
    written back nor read at the next point (Lib/Pipeline.lean "Idle points"). -/
def out1_B_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) : Vec F S1024x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case B's pieces for scratch `arg7`, which the kernel carries between points, cover it: 1 piece of `S1024x1024` tiling it (Lib/Ring.lean `Piece.tiledL`). -/
theorem scover1_B_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in scratch `arg7`: its pieces read back over junk. -/
def sout1_B_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x4096 .bf16) (x1 : Vec F S4096x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 2, 5, … 503: 168 of 504), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_dora_matmul i arg3 harg3 arg4 harg4 arg5 harg5 arg6 harg6 arg7 harg7) K } := by
  refine ⟨?_, ?_, fun E K => ?run⟩
  case run =>
    simp only [cc1_dora_matmul_eq_skeleton]; unfold cc1_dora_matmul_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- Case C's pieces for output 3 tile its block (1 store of `S1024x1024`, checked by the kernel's evaluation: Lib/Ring.lean `Piece.tiledL`, linear in the pieces, through a loop's `@[irreducible]` trip theorem too), so they cover it. -/
theorem cover1_C_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in output 3's staging buffer: its pieces read back over junk. -/
def out1_C_3 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) : Vec F S1024x1024 .bf16 :=
  VO1_3.read (Elt F) (VO1_3.writes (Elt F) VO1_3.junk (kernelRun1_C c i arg3 harg3 arg4 harg4 arg5 harg5 arg6 harg6 arg7 harg7 hc0 hc1 x0 x1 x2 xs0).1)

/-- Case C's pieces for scratch `arg7`, which the kernel carries between points, cover it: 1 piece of `S1024x1024` tiling it (Lib/Ring.lean `Piece.tiledL`). -/
theorem scover1_C_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in scratch `arg7`: its pieces read back over junk. -/
def sout1_C_0 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x4096 .bf16) (x1 : Vec F S4096x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 3 = 0 then
      if h1 : (n + 1) % 3 = 2 then
        False.elim (by have hN : n + 1 < 504 := lt_of_lt_of_eq hn (show cfg1.N = 504 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 3 = 2 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 3 = 0) (h1 : ¬t.val % 3 = 2) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 3 = 0) (h1 : ¬t.val % 3 = 2) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 3 = 0) (h1 : t.val % 3 = 2) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2)) ∗ (∃ r, prngReg c r))

/-- Before the first grid point the carried state is the one the launch starts from. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
/-- The staged block of the weights after a grid point. -/
theorem after1_1 (c : Dev nD) (t : Fin cfg1.N) : (dat1 V c).after 1 t = iblk1 V c 1 t := by dsimp only [dat1]
/-- The staged block of the factors after a grid point. -/
theorem after1_2 (c : Dev nD) (t : Fin cfg1.N) : (dat1 V c).after 2 t = iblk1 V c 2 t := by dsimp only [dat1]
/-- The staged block of the products after a grid point. -/
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- The staged block of the weights before a grid point. -/
theorem before1_1 (c : Dev nD) (t : Fin cfg1.N) (d) : (dat1 V c).before 1 t d = iblk1 V c 1 t :=
  before1_1_of V (dat1 V c) (A_eq1 V c 1) (after1_1 V c) t d
/-- The staged block of the factors before a grid point. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 504 := lt_of_lt_of_eq t.isLt (show cfg1.N = 504 from N_1)
  by_cases h0 : t.val % 3 = 0
  · by_cases h1 : t.val % 3 = 2
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        rw [outsAt1_A V c t h0 h1]
        unfold sout1_A_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 3 = 2
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      by_cases hz : t.val = 0
      · exfalso; have hN : t.val < 504 := lt_of_lt_of_eq t.isLt (show cfg1.N = 504 from N_1); omega
      · rw [PhiS_castSucc V c t, PhiS_pos V c _ _ hz]
        rw [outsAt1_C V c t h0 h1]
        unfold out1_C_3 sout1_C_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 504 := lt_of_lt_of_eq t.isLt (show cfg1.N = 504 from N_1); omega
      · rw [PhiS_castSucc V c t, PhiS_pos V c _ _ hz]
        rw [outsAt1_B V c t h0 h1]
        unfold sout1_B_0; (try dsimp only)
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            isplitl [HR16]
            · iexact HR16
            isplitl [HR17]
            · iexact HR17
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 504 := N_1; omega)

end Cert.KernelIdeal.Gen.Whole

end
-- ==== Proof.KernelIdealRun.lean ====
/- The whole run of `KernelIdeal`: the two pallas_calls as regions between the host operations, the buffers'
   contents at each boundary, and the frame. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdealMatmul

@[expose] public section

-- membership in a rectangle of production extents: the elaborator's structural look recurses once per coordinate
set_option maxRecDepth 16384

noncomputable section

namespace Cert.KernelIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
/-- The buffers that the first stretch of host operations writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5]
/-- The buffers that the second stretch of host operations writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8]
/-- The buffers that the third stretch of host operations writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as they were at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as they were before the first launch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- After the first launch each of its arrays holds what the launch leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first launch leaves every other buffer alone. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as they were after the first launch. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The first launch leaves every buffer that is not one of its arrays alone. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as they were before the second launch. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- After the second launch each of its arrays holds what the launch leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- The second launch leaves every other buffer alone. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as they were after the second launch. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The second launch leaves every buffer that is not one of its arrays alone. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as they were at the end of the run. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- The activations are as they were at the end of the run. -/
theorem W5_main_arg0 (c : Dev nD) : W5 m ρ c (Proc.devRef .tc main_arg0) = m ((c : Thread nD τ).loc main_arg0) :=
  W5_args m ρ c main_arg0 (by decide)
/-- The codes are as they were at the end of the run. -/
theorem W5_main_arg1 (c : Dev nD) : W5 m ρ c (Proc.devRef .tc main_arg1) = m ((c : Thread nD τ).loc main_arg1) :=
  W5_args m ρ c main_arg1 (by decide)
/-- The scales are as they were at the end of the run. -/
theorem W5_main_arg2 (c : Dev nD) : W5 m ρ c (Proc.devRef .tc main_arg2) = m ((c : Thread nD τ).loc main_arg2) :=
  W5_args m ρ c main_arg2 (by decide)
/-- The first adapter factor is as it was at the end of the run. -/
theorem W5_main_arg3 (c : Dev nD) : W5 m ρ c (Proc.devRef .tc main_arg3) = m ((c : Thread nD τ).loc main_arg3) :=
  W5_args m ρ c main_arg3 (by decide)
/-- The second adapter factor is as it was at the end of the run. -/
theorem W5_main_arg4 (c : Dev nD) : W5 m ρ c (Proc.devRef .tc main_arg4) = m ((c : Thread nD τ).loc main_arg4) :=
  W5_args m ρ c main_arg4 (by decide)
/-- The magnitudes are as they were at the end of the run. -/
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop variants are needed. -/
abbrev 𝒱₀ : Variants := Variants.none
/-- No core owes another anything: no level is assigned. -/
abbrev L : GSem nD τ sig → Finset Unit := fun _ => ∅
/-- Every semaphore has level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V3 m ρ) c
    rw [show (pdats m ρ 1 c).Φ 0 = (dat1 (V3 m ρ) c).Φ 0 from rfl]
    unfold Pipeline.ΦA at h
    iintro ⟨Hp, -, Hr⟩
    iapply h
    isplitl [Hr]; · iexact Hr
    iexact Hp
  hout c := by
    have h := hout (V3 m ρ) c
    rw [Pipeline.ownSems0_none, show (pdats m ρ 1 c).Φ (Fin.last _) = (dat1 (V3 m ρ) c).Φ (Fin.last cfg1.N) from rfl]
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates,
    nothing faulting, and every final state has every unscoped buffer at the last boundary's contents `W5` and every
    semaphore counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩, h.2⟩) (run_main m ρ)

end Cert.KernelIdeal.Gen.Whole

end
-- ==== Proof.Sums.lean ====
/- A finite sum taken in blocks of equal length. -/
module

public import Mathlib.Algebra.BigOperators.Fin
public import Mathlib.Logic.Equiv.Fin.Basic
public import Mathlib.Data.Fintype.BigOperators

@[expose] public section

namespace Cert.Value

/-- Term `j` of block `i` lies below the whole count. -/
theorem block_lt {a b n i j : Nat} (h : n = a * b) (hi : i < a) (hj : j < b) : b * i + j < n := by
  have : b * (i + 1) ≤ b * a := Nat.mul_le_mul_left _ hi
  rw [Nat.mul_succ] at this
  rw [h, Nat.mul_comm a b]
  omega

/-- A sum over `a * b` terms is the sum over the `a` blocks of `b` consecutive terms. -/
theorem sum_blocks {M : Type*} [AddCommMonoid M] (a b n : Nat) (h : n = a * b) (f : Fin n → M) :
    ∑ k, f k = ∑ i : Fin a, ∑ j : Fin b, f ⟨b * i.val + j.val, block_lt h i.isLt j.isLt⟩ := by
  subst h
  rw [← Equiv.sum_comp finProdFinEquiv, Fintype.sum_prod_type]
  refine Finset.sum_congr rfl fun i _ => Finset.sum_congr rfl fun j _ => congrArg f (Fin.ext ?_)
  show j.val + b * i.val = b * i.val + j.val
  omega

end Cert.Value
-- ==== Proof.Nibble.lean ====
/- The int4 codes: one byte holds two of them, the low nibble and the high one. The kernel reads a nibble
   as the low bits of a bf16 word of bias 136 and takes 136 away; the reference sign-extends it in integer
   arithmetic. Both are the nibble's value as a signed four-bit integer. -/
module

public import Idealize.ShloMosaic.Lib.Pointwise
public import Idealize.ShloMosaic.Lib.ValueIdx
public import Idealize.ShloMosaic.Lib.BitcastPair

@[expose] public section

noncomputable section

namespace Cert.Value

open Idealize.ShloMosaic

/-- The value of nibble `p` (0 the low one, 1 the high one) of the byte `b`, as a signed four-bit integer. -/
def nib (p : Nat) (b : BitVec 8) : EReal := (((b.extractLsb' (4 * p) 4).toInt : ℝ) : EReal)

/-- A bf16 word of positive sign and exponent 134 is 128 plus its fraction field. -/
theorem ofBits_134 (b : BitVec 16) (hs : b.extractLsb' 15 1 = 0#1) (he : b.extractLsb' 7 8 = 134#8) :
    Ideal.ofBits .bf16 b = (((128 + (b.extractLsb' 0 7).toNat : ℤ) : ℝ) : EReal) := by
  generalize hf : (b.extractLsb' 0 7).toNat = f
  simp only [Ideal.ofBits, Ideal.ieee, hs, he, hf]
  norm_num

/-- The kernel's reading of a nibble: the bf16 word 0x4308 with the nibble's bits turned over, less 136. -/
theorem ofBits_sub (n : BitVec 4) :
    Ideal.ofBits .bf16 (0x4308#16 ^^^ n.setWidth 16) - Ideal.ofBits .bf16 0x4308#16 = ((n.toInt : ℝ) : EReal) := by
  have h : ∀ n : BitVec 4, (0x4308#16 ^^^ n.setWidth 16).extractLsb' 15 1 = 0#1
      ∧ (0x4308#16 ^^^ n.setWidth 16).extractLsb' 7 8 = 134#8 := by decide
  have h' : ∀ n : BitVec 4, ((128 + ((0x4308#16 ^^^ n.setWidth 16).extractLsb' 0 7).toNat : ℤ))
      - (128 + ((0x4308#16).extractLsb' 0 7).toNat : ℤ) = n.toInt := by decide
  rw [ofBits_134 _ (h n).1 (h n).2, ofBits_134 0x4308#16 (by decide) (by decide), ← EReal.coe_sub, ← Int.cast_sub, h' n]

/-- The 32-bit word the kernel makes of a byte: the low nibble at bit 0, the high nibble at bit 16, under the bias. -/
def word (b : BitVec 8) : BitVec 32 :=
  IntOp.xori (IntOp.ori (IntOp.andi (b.setWidth 32) 15#32) (IntOp.shli .vector (IntOp.andi (b.setWidth 32) 240#32) 12#32)) 1124614920#32

/-- Half `p` of the kernel's word, read as a bf16 number less 136, is nibble `p`. -/
theorem word_half (p : Nat) (hp : p < 2) (b : BitVec 8) :
    Ideal.ofBits .bf16 ((word b).extractLsb' (16 * p) 16) - Ideal.ofBits .bf16 0x4308#16 = nib p b := by
  have h : ∀ (p : Fin 2) (b : BitVec 8), (word b).extractLsb' (16 * p.val) 16 = 0x4308#16 ^^^ (b.extractLsb' (4 * p.val) 4).setWidth 16 := by
    decide +kernel
  have hb := h ⟨p, hp⟩ b
  dsimp only at hb
  rw [hb, ofBits_sub]; rfl

/-- The reference's low nibble: the masked byte, less 16 from 8 on. -/
theorem ref_lo (b : BitVec 8) :
    ((Scalar.select (IntOp.cmpi .sge (IntOp.andi (b.setWidth 32) 15#32) 8#32)
      (IntOp.subi (IntOp.andi (b.setWidth 32) 15#32) 16#32) (IntOp.andi (b.setWidth 32) 15#32)).toInt : ℝ) = ((b.extractLsb' 0 4).toInt : ℝ) := by
  have h : ∀ b : BitVec 8, (Scalar.select (IntOp.cmpi .sge (IntOp.andi (b.setWidth 32) 15#32) 8#32)
      (IntOp.subi (IntOp.andi (b.setWidth 32) 15#32) 16#32) (IntOp.andi (b.setWidth 32) 15#32)).toInt = (b.extractLsb' 0 4).toInt := by
    decide +kernel
  rw [h]

/-- The reference's high nibble: the byte shifted down by four and masked, less 16 from 8 on. -/
theorem ref_hi (b : BitVec 8) :
    ((Scalar.select (IntOp.cmpi .sge (IntOp.andi (IntOp.shrsi .host (b.setWidth 32) 4#32) 15#32) 8#32)
      (IntOp.subi (IntOp.andi (IntOp.shrsi .host (b.setWidth 32) 4#32) 15#32) 16#32)
      (IntOp.andi (IntOp.shrsi .host (b.setWidth 32) 4#32) 15#32)).toInt : ℝ) = ((b.extractLsb' 4 4).toInt : ℝ) := by
  have h : ∀ b : BitVec 8, (Scalar.select (IntOp.cmpi .sge (IntOp.andi (IntOp.shrsi .host (b.setWidth 32) 4#32) 15#32) 8#32)
      (IntOp.subi (IntOp.andi (IntOp.shrsi .host (b.setWidth 32) 4#32) 15#32) 16#32)
      (IntOp.andi (IntOp.shrsi .host (b.setWidth 32) 4#32) 15#32)).toInt = (b.extractLsb' 4 4).toInt := by
    decide +kernel
  rw [h]

end Cert.Value
-- ==== Proof.WeightPayload.lean ====
/- What the first kernel's arithmetic computes, read at an index: the dequantized nibbles, the adapter's
   product, one group's two half-weights, its column sums of squares and its interleaved rows. -/
module

public import proofs.«01_k».proof.Proof.Nibble
public import proofs.«01_k».proof.Proof.Gen.KernelIdeal.Skeleton

@[expose] public section

set_option maxRecDepth 16384

noncomputable section

namespace Cert.Value

open Idealize.ShloMosaic Idealize.ShloMosaic.TcCoe
open Cert.KernelIdeal Cert.KernelIdeal.Gen

/-- The kernel's constant 2.0. -/
abbrev two : EReal := Ideal.ofBits .f32 0x40000000#32

/-- The interleaved rows of words, read as 16-bit halves: row `2 r + p` of a column is half `p` of word row `r`. -/
theorem halves_apply (x : IVec S64x1024 32) (p : Fin 2) (r : Fin 64) (c : Fin 1024) :
    bitcast S128x1024 16 x bitcasts_S64x1024_w32_S128x1024_w16 (ix2 ⟨2 * r.val + p.val, by omega⟩ c)
      = (x (ix2 r c)).extractLsb' (16 * p.val) 16 := by
  rw [bitcast_32_16]
  have hr : S128x1024.row (ix2 ⟨2 * r.val + p.val, by omega⟩ c : S128x1024.Idx) = 2 * r.val + p.val := rfl
  have e1 : S128x1024.row (ix2 ⟨2 * r.val + p.val, by omega⟩ c : S128x1024.Idx) % 2 = p.val := by rw [hr]; omega
  rw [e1]
  congr 2
  funext a
  apply Fin.ext
  have := p.isLt
  match a with
  | ⟨0, _⟩ => show (2 * r.val + p.val) / 2 = r.val; omega
  | ⟨1, _⟩ => rfl

/-- A group's dequantized codes at row `2 r + p`: nibble `p` of byte `r` times the group's scale. -/
theorem pay11_apply (v12 : Vec Ideal S64x1024 .i8) (v13 : Vec Ideal S1x1x1024 .bf16) (p : Fin 2) (r : Fin 64) (c : Fin 1024) :
    k0_pay11 (F := Ideal) v12 v13 (ix2 ⟨2 * r.val + p.val, by omega⟩ c) = nib p.val (v12 (ix2 r c)) * v13 (ix3 0 0 c) := by
  unfold k0_pay11
  pointwise
  rw [halves_apply, ← word_half p.val p.isLt]
  rfl

/-- The even rows of the dequantized codes: the low nibbles. -/
theorem pay12_apply (v12 : Vec Ideal S64x1024 .i8) (v13 : Vec Ideal S1x1x1024 .bf16) (r : Fin 64) (c : Fin 1024) :
    k0_pay12 (F := Ideal) v12 v13 (ix2 r c) = nib 0 (v12 (ix2 r c)) * v13 (ix3 0 0 c) := by
  refine Eq.trans ?_ (pay11_apply v12 v13 0 r c)
  pointwise [k0_pay12]

/-- The odd rows of the dequantized codes: the high nibbles. -/
theorem pay13_apply (v12 : Vec Ideal S64x1024 .i8) (v13 : Vec Ideal S1x1x1024 .bf16) (r : Fin 64) (c : Fin 1024) :
    k0_pay13 (F := Ideal) v12 v13 (ix2 r c) = nib 1 (v12 (ix2 r c)) * v13 (ix3 0 0 c) := by
  refine Eq.trans ?_ (pay11_apply v12 v13 1 r c)
  pointwise [k0_pay13]

/-- The adapter's product of a block of `a` rows with `b`. -/
theorem pay8_apply (v3 : Vec Ideal S256x32 .bf16) (v5 : Vec Ideal S32x1024 .bf16) (r : Fin 256) (c : Fin 1024) :
    k0_pay8 (F := Ideal) v3 v5 (ix2 r c) = ∑ q : Fin 32, v3 (ix2 r q) * v5 (ix2 q c) := by
  pointwise [k0_pay8]

/-- The two halves of the adapter's product are one function of their rows. -/
theorem pay9_eq_pay8 (v7 : Vec Ideal S256x32 .bf16) (v9 : Vec Ideal S32x1024 .bf16) :
    k0_pay9 (F := Ideal) v7 v9 = k0_pay8 v7 v9 := rfl

/-- A group's column sums of squares, as the kernel writes them. -/
def sumSq (u w : FVec Ideal S64x1024 .f32) : FVec Ideal S1x1024 .f32 :=
  shapeCast S1x1024 (multiReduction .add [0] S1024 (addf (mulf u u) (mulf w w)) 0x00000000#32 reduces_S64x1024_S1024 (.inl rfl) rfl) shapeCasts_S1024_S1x1024

/-- They are the sums over the group's 64 rows. -/
theorem sumSq_apply (u w : FVec Ideal S64x1024 .f32) (c : Fin 1024) :
    sumSq u w (ix2 0 c) = ∑ r : Fin 64, (u (ix2 r c) * u (ix2 r c) + w (ix2 r c) * w (ix2 r c)) := by
  pointwise [sumSq]

/-- The interleaved rows a group stores. -/
def rows (u w : FVec Ideal S64x1024 .f32) : FVec Ideal S128x1024 .bf16 :=
  interleaveRows S128x1024 (truncf .bf16 u) (truncf .bf16 w) bitcasts_S128x1024_w16_S64x1024_w32

/-- An even row is the low half's, an odd one the high half's. -/
theorem rows_apply (u w : FVec Ideal S64x1024 .f32) (R : Fin 128) (c : Fin 1024) :
    rows u w (ix2 R c) = if R.val % 2 = 0 then u (ix2 ⟨R.val / 2, by omega⟩ c) else w (ix2 ⟨R.val / 2, by omega⟩ c) := by
  pointwise [rows]

/-- A group's half-weight: its dequantized rows plus twice its rows of the adapter's product. -/
def half (o : Nat) (h : S256x1024.Slices ![o, 0] S64x1024) (ab : FVec Ideal S256x1024 .f32) (q : FVec Ideal S64x1024 .bf16) :
    FVec Ideal S64x1024 .f32 :=
  addf (extf .f32 q) (mulf (broadcast S64x1024 (Scalar.ofBits .f32 0x40000000#32)) (extractStridedSlice S64x1024 ![o, 0] ab h))

/-- One quarter of the adapted weights, element by element. -/
theorem half_apply (o : Nat) (ho : o + 64 ≤ 256) (h : S256x1024.Slices ![o, 0] S64x1024) (ab : FVec Ideal S256x1024 .f32)
    (q : FVec Ideal S64x1024 .bf16) (r : Fin 64) (c : Fin 1024) :
    half o h ab q (ix2 r c) = q (ix2 r c) + two * ab (ix2 ⟨o + r.val, by omega⟩ c) := by
  pointwise [half]

/-- The weight at row `r` (of one parity `p`) and column `c` of a block: its dequantized nibble plus twice the adapter's product. -/
def wBlk (p : Nat) (x0 : Vec Ideal S256x1024 .i8) (x1 : Vec Ideal S4x1x1024 .bf16) (xa : Vec Ideal S256x32 .bf16)
    (x4 : Vec Ideal S32x1024 .bf16) (r : Fin 256) (c : Fin 1024) : EReal :=
  nib p (x0 (ix2 r c)) * x1 (ix3 ⟨r.val / 64, by omega⟩ 0 c) + two * ∑ q : Fin 32, xa (ix2 r q) * x4 (ix2 q c)

/-- The low half-weight of the group whose rows start at `64 g` is the block's. -/
theorem half_lo (g : Nat) (hg : g < 4) (h : S256x1024.Slices ![64 * g, 0] S64x1024) (x0 : Vec Ideal S256x1024 .i8) (x1 : Vec Ideal S4x1x1024 .bf16)
    (xa : Vec Ideal S256x32 .bf16) (x4 : Vec Ideal S32x1024 .bf16) (v12 : Vec Ideal S64x1024 .i8) (v13 : Vec Ideal S1x1x1024 .bf16)
    (h12 : ∀ (r : Fin 64) (c : Fin 1024), v12 (ix2 r c) = x0 (ix2 ⟨64 * g + r.val, by omega⟩ c))
    (h13 : ∀ c : Fin 1024, v13 (ix3 0 0 c) = x1 (ix3 ⟨g, hg⟩ 0 c)) (r : Fin 64) (c : Fin 1024) :
    half (64 * g) h (k0_pay8 (F := Ideal) xa x4) (k0_pay12 v12 v13) (ix2 r c) = wBlk 0 x0 x1 xa x4 ⟨64 * g + r.val, by omega⟩ c := by
  rw [half_apply _ (by omega), pay12_apply, pay8_apply, h12, h13]
  unfold wBlk
  congr 4
  apply Fin.ext
  show g = (64 * g + r.val) / 64
  omega

/-- The high half-weight likewise. -/
theorem half_hi (g : Nat) (hg : g < 4) (h : S256x1024.Slices ![64 * g, 0] S64x1024) (x0 : Vec Ideal S256x1024 .i8) (x1 : Vec Ideal S4x1x1024 .bf16)
    (xa : Vec Ideal S256x32 .bf16) (x4 : Vec Ideal S32x1024 .bf16) (v12 : Vec Ideal S64x1024 .i8) (v13 : Vec Ideal S1x1x1024 .bf16)
    (h12 : ∀ (r : Fin 64) (c : Fin 1024), v12 (ix2 r c) = x0 (ix2 ⟨64 * g + r.val, by omega⟩ c))
    (h13 : ∀ c : Fin 1024, v13 (ix3 0 0 c) = x1 (ix3 ⟨g, hg⟩ 0 c)) (r : Fin 64) (c : Fin 1024) :
    half (64 * g) h (k0_pay8 (F := Ideal) xa x4) (k0_pay13 v12 v13) (ix2 r c) = wBlk 1 x0 x1 xa x4 ⟨64 * g + r.val, by omega⟩ c := by
  rw [half_apply _ (by omega), pay13_apply, pay8_apply, h12, h13]
  unfold wBlk
  congr 4
  apply Fin.ext
  show g = (64 * g + r.val) / 64
  omega

/-! The four groups' payloads are these functions at row offsets 0, 64, 128 and 192. -/

/-- The low-code weights of the first quarter. -/
theorem pay14_eq (v6 : FVec Ideal S256x1024 .f32) (q : FVec Ideal S64x1024 .bf16) : k0_pay14 (F := Ideal) v6 q = half (64 * 0) slices_S256x1024_o0_0_S64x1024 v6 q := rfl
/-- The high-code weights of the first quarter. -/
theorem pay15_eq (v6 : FVec Ideal S256x1024 .f32) (q : FVec Ideal S64x1024 .bf16) : k0_pay15 (F := Ideal) v6 q = half (64 * 0) slices_S256x1024_o0_0_S64x1024 v6 q := rfl
/-- The low-code weights of the second quarter. -/
theorem pay21_eq (v6 : FVec Ideal S256x1024 .f32) (q : FVec Ideal S64x1024 .bf16) : k0_pay21 (F := Ideal) v6 q = half (64 * 1) slices_S256x1024_o64_0_S64x1024 v6 q := rfl
/-- The high-code weights of the second quarter. -/
theorem pay22_eq (v6 : FVec Ideal S256x1024 .f32) (q : FVec Ideal S64x1024 .bf16) : k0_pay22 (F := Ideal) v6 q = half (64 * 1) slices_S256x1024_o64_0_S64x1024 v6 q := rfl
/-- The low-code weights of the third quarter. -/
theorem pay28_eq (v6 : FVec Ideal S256x1024 .f32) (q : FVec Ideal S64x1024 .bf16) : k0_pay28 (F := Ideal) v6 q = half (64 * 2) slices_S256x1024_o128_0_S64x1024 v6 q := rfl
/-- The high-code weights of the third quarter. -/
theorem pay29_eq (v6 : FVec Ideal S256x1024 .f32) (q : FVec Ideal S64x1024 .bf16) : k0_pay29 (F := Ideal) v6 q = half (64 * 2) slices_S256x1024_o128_0_S64x1024 v6 q := rfl
/-- The low-code weights of the fourth quarter. -/
theorem pay1_eq (v6 : FVec Ideal S256x1024 .f32) (q : FVec Ideal S64x1024 .bf16) : k0_pay1 (F := Ideal) v6 q = half (64 * 3) slices_S256x1024_o192_0_S64x1024 v6 q := rfl
/-- The high-code weights of the fourth quarter. -/
theorem pay2_eq (v6 : FVec Ideal S256x1024 .f32) (q : FVec Ideal S64x1024 .bf16) : k0_pay2 (F := Ideal) v6 q = half (64 * 3) slices_S256x1024_o192_0_S64x1024 v6 q := rfl

end Cert.Value
-- ==== Proof.WeightValue.lean ====
/- What the first kernel's body leaves in its outputs at one grid point: a block of the weight, the running column
   sum of squares, its square root at the last point and the output factor. -/
module

public import proofs.«01_k».proof.Proof.Sums
public import proofs.«01_k».proof.Proof.WeightPayload
public import proofs.«01_k».proof.Proof.KernelIdealWeight
public import Idealize.ShloMosaic.Lib.Pipeline.Value
public import Idealize.ShloMosaic.Lib.Pipeline.ValueKit.Tiles
public import Idealize.ShloMosaic.Lib.Tactic

@[expose] public section

set_option maxRecDepth 16384

noncomputable section

namespace Cert.Value

open Idealize.ShloMosaic Idealize.ShloMosaic.TcCoe Idealize.SL.Sem
open Cert.KernelIdeal Cert.KernelIdeal.Gen Cert.KernelIdeal.Gen.Whole

/-- Two zero offsets are the zero offset. -/
theorem hz : (![0, 0] : Fin 2 → Nat) = fun _ => 0 := funext fun a => by fin_cases a <;> rfl

/-- The weight's block at a point: the rows of the two half-weights, interleaved. -/
def vBlk (x0 : Vec Ideal S256x1024 .i8) (x1 : Vec Ideal S4x1x1024 .bf16) (x2 x3 : Vec Ideal S256x32 .bf16)
    (x4 : Vec Ideal S32x1024 .bf16) (R : Fin 512) (c : Fin 1024) : EReal :=
  if R.val % 2 = 0 then wBlk 0 x0 x1 x2 x4 ⟨R.val / 2, by omega⟩ c else wBlk 1 x0 x1 x3 x4 ⟨R.val / 2, by omega⟩ c

/-- The block's column sum of squares. -/
def sBlk (x0 : Vec Ideal S256x1024 .i8) (x1 : Vec Ideal S4x1x1024 .bf16) (x2 x3 : Vec Ideal S256x32 .bf16)
    (x4 : Vec Ideal S32x1024 .bf16) (c : Fin 1024) : EReal :=
  ∑ r : Fin 256, (wBlk 0 x0 x1 x2 x4 r c * wBlk 0 x0 x1 x2 x4 r c + wBlk 1 x0 x1 x3 x4 r c * wBlk 1 x0 x1 x3 x4 r c)

section Group

variable (x0 : Vec Ideal S256x1024 .i8) (x1 : Vec Ideal S4x1x1024 .bf16) (x2 x3 : Vec Ideal S256x32 .bf16) (x4 : Vec Ideal S32x1024 .bf16)

/-- The codes of the group whose rows start at `o`. -/
def codes (o : Nat) (h : ∀ a, ![o, 0] a + S64x1024.size a ≤ S256x1024.size a) : Vec Ideal S64x1024 .i8 :=
  View.ld x0 (Rect.unit (s := S256x1024) ![o, 0] S64x1024.size h)

/-- The scales of group `g`. -/
def scale (g : Nat) (h : ∀ a, ![g, 0, 0] a + S1x1x1024.size a ≤ S4x1x1024.size a) : Vec Ideal S1x1x1024 .bf16 :=
  View.ld x1 (Rect.unit (s := S4x1x1024) ![g, 0, 0] S1x1x1024.size h)

/-- A quarter of the code block, element by element. -/
theorem codes_apply (g : Nat) (hg : g < 4) (h) (r : Fin 64) (c : Fin 1024) :
    codes x0 (64 * g) h (ix2 r c) = x0 (ix2 ⟨64 * g + r.val, by omega⟩ c) := by
  unfold codes
  exact View.ld_unit_apply_of x0 _ _ h (ix2 r c) _ fun a => match a with
    | ⟨0, _⟩ => rfl
    | ⟨1, _⟩ => by show c.val = 0 + c.val; omega

/-- One row of the scale block, element by element. -/
theorem scale_apply (g : Nat) (hg : g < 4) (h) (c : Fin 1024) :
    scale x1 g h (ix3 0 0 c) = x1 (ix3 ⟨g, hg⟩ 0 c) := by
  unfold scale
  exact View.ld_unit_apply_of x1 _ _ h (ix3 0 0 c) _ fun a => match a with
    | ⟨0, _⟩ => rfl
    | ⟨1, _⟩ => rfl
    | ⟨2, _⟩ => by show c.val = 0 + c.val; omega

/-- Group `g`'s low half-weight, as the kernel computes it from its loads. -/
abbrev lo (g : Nat) (hs : S256x1024.Slices ![64 * g, 0] S64x1024) (h : ∀ a, ![64 * g, 0] a + S64x1024.size a ≤ S256x1024.size a)
    (h' : ∀ a, ![g, 0, 0] a + S1x1x1024.size a ≤ S4x1x1024.size a) : FVec Ideal S64x1024 .f32 :=
  half (64 * g) hs (k0_pay8 (F := Ideal) x2 x4) (k0_pay12 (codes x0 (64 * g) h) (scale x1 g h'))

/-- Group `g`'s high half-weight. -/
abbrev hi (g : Nat) (hs : S256x1024.Slices ![64 * g, 0] S64x1024) (h : ∀ a, ![64 * g, 0] a + S64x1024.size a ≤ S256x1024.size a)
    (h' : ∀ a, ![g, 0, 0] a + S1x1x1024.size a ≤ S4x1x1024.size a) : FVec Ideal S64x1024 .f32 :=
  half (64 * g) hs (k0_pay8 (F := Ideal) x3 x4) (k0_pay13 (codes x0 (64 * g) h) (scale x1 g h'))

/-- The low-code weights of a quarter, element by element. -/
theorem lo_apply (g : Nat) (hg : g < 4) (hs h h') (r : Fin 64) (c : Fin 1024) :
    lo x0 x1 x2 x4 g hs h h' (ix2 r c) = wBlk 0 x0 x1 x2 x4 ⟨64 * g + r.val, by omega⟩ c :=
  half_lo g hg hs x0 x1 x2 x4 _ _ (codes_apply x0 g hg h) (scale_apply x1 g hg h') r c

/-- The high-code weights of a quarter, element by element. -/
theorem hi_apply (g : Nat) (hg : g < 4) (hs h h') (r : Fin 64) (c : Fin 1024) :
    hi x0 x1 x3 x4 g hs h h' (ix2 r c) = wBlk 1 x0 x1 x3 x4 ⟨64 * g + r.val, by omega⟩ c :=
  half_hi g hg hs x0 x1 x3 x4 _ _ (codes_apply x0 g hg h) (scale_apply x1 g hg h') r c

/-- Group `g`'s store holds the weight's rows `128 g` to `128 g + 127` of the block. -/
theorem tile (g : Nat) (hg : g < 4) (hs h h') (R : Fin 512) (c : Fin 1024) :
    View.TileAt (Val := Elt Ideal) (e := .bf16) (S := S512x1024) (ix2 R c) ![128 * g, 0] ![128, 1024]
      (rows (lo x0 x1 x2 x4 g hs h h') (hi x0 x1 x3 x4 g hs h h')) (vBlk x0 x1 x2 x3 x4 R c) := by
  intro x hx
  obtain ⟨a, b, rfl⟩ : ∃ (a : Fin 128) (b : Fin 1024), x = ix2 a b := ⟨x 0, x 1, eq_ix2 x⟩
  have h0 : R.val = 128 * g + a.val := hx 0
  have h1 : c.val = 0 + b.val := hx 1
  obtain rfl : b = c := Fin.ext (by omega)
  rw [rows_apply, lo_apply _ _ _ _ g hg, hi_apply _ _ _ _ g hg]
  unfold vBlk
  have e : a.val % 2 = R.val % 2 := by omega
  have e' : 64 * g + a.val / 2 = R.val / 2 := by omega
  simp only [e, e']

/-- Group `g`'s column sums of squares are sums over the block's rows `64 g` to `64 g + 63`. -/
theorem sumSq_group (g : Nat) (hg : g < 4) (hs h h') (c : Fin 1024) :
    sumSq (lo x0 x1 x2 x4 g hs h h') (hi x0 x1 x3 x4 g hs h h') (ix2 0 c)
      = ∑ r : Fin 64, (wBlk 0 x0 x1 x2 x4 ⟨64 * g + r.val, by omega⟩ c * wBlk 0 x0 x1 x2 x4 ⟨64 * g + r.val, by omega⟩ c
          + wBlk 1 x0 x1 x3 x4 ⟨64 * g + r.val, by omega⟩ c * wBlk 1 x0 x1 x3 x4 ⟨64 * g + r.val, by omega⟩ c) := by
  rw [sumSq_apply]
  refine Finset.sum_congr rfl fun r _ => ?_
  rw [lo_apply _ _ _ _ g hg, hi_apply _ _ _ _ g hg]

/-- The four stores of the weight's block, last first. -/
def stores : List (View.Piece (Elt Ideal) S512x1024 .bf16) :=
  [⟨Rect.unit ![384, 0] ![128, 1024] inb_S512x1024_S128x1024_384_0,
      rows (lo x0 x1 x2 x4 3 slices_S256x1024_o192_0_S64x1024 inb_S256x1024_S64x1024_192_0 inb_S4x1x1024_S1x1x1024_3_0_0)
        (hi x0 x1 x3 x4 3 slices_S256x1024_o192_0_S64x1024 inb_S256x1024_S64x1024_192_0 inb_S4x1x1024_S1x1x1024_3_0_0)⟩,
   ⟨Rect.unit ![256, 0] ![128, 1024] inb_S512x1024_S128x1024_256_0,
      rows (lo x0 x1 x2 x4 2 slices_S256x1024_o128_0_S64x1024 inb_S256x1024_S64x1024_128_0 inb_S4x1x1024_S1x1x1024_2_0_0)
        (hi x0 x1 x3 x4 2 slices_S256x1024_o128_0_S64x1024 inb_S256x1024_S64x1024_128_0 inb_S4x1x1024_S1x1x1024_2_0_0)⟩,
   ⟨Rect.unit ![128, 0] ![128, 1024] inb_S512x1024_S128x1024_128_0,
      rows (lo x0 x1 x2 x4 1 slices_S256x1024_o64_0_S64x1024 inb_S256x1024_S64x1024_64_0 inb_S4x1x1024_S1x1x1024_1_0_0)
        (hi x0 x1 x3 x4 1 slices_S256x1024_o64_0_S64x1024 inb_S256x1024_S64x1024_64_0 inb_S4x1x1024_S1x1x1024_1_0_0)⟩,
   ⟨Rect.unit ![0, 0] ![128, 1024] inb_S512x1024_S128x1024_0_0,
      rows (lo x0 x1 x2 x4 0 slices_S256x1024_o0_0_S64x1024 inb_S256x1024_S64x1024_0_0 inb_S4x1x1024_S1x1x1024_0_0_0)
        (hi x0 x1 x3 x4 0 slices_S256x1024_o0_0_S64x1024 inb_S256x1024_S64x1024_0_0 inb_S4x1x1024_S1x1x1024_0_0_0)⟩]

/-- They leave the weight's block. -/
theorem canon_stores (R : Fin 512) (c : Fin 1024) :
    View.canon (stores x0 x1 x2 x3 x4) (ix2 R c) = vBlk x0 x1 x2 x3 x4 R c := by
  refine View.canon_eq_of_allAt _ _ _ ?_ ?_
  · exact View.cover_of_tiled_head _ _ _ (by rfl) _
  · refine View.allAt_cons_unit _ _ _ _ _ (tile x0 x1 x2 x3 x4 3 (by decide) _ _ _ R c) ?_
    refine View.allAt_cons_unit _ _ _ _ _ (tile x0 x1 x2 x3 x4 2 (by decide) _ _ _ R c) ?_
    refine View.allAt_cons_unit _ _ _ _ _ (tile x0 x1 x2 x3 x4 1 (by decide) _ _ _ R c) ?_
    refine View.allAt_cons_unit _ _ _ _ _ (tile x0 x1 x2 x3 x4 0 (by decide) _ _ _ R c) ?_
    exact View.allAt_nil _ _

/-- The block's column sums of squares as the kernel adds them up, group after group. -/
def total : FVec Ideal S1x1024 .f32 :=
  addf (addf (addf (addf (k0_pay10 (F := Ideal))
    (sumSq (lo x0 x1 x2 x4 0 slices_S256x1024_o0_0_S64x1024 inb_S256x1024_S64x1024_0_0 inb_S4x1x1024_S1x1x1024_0_0_0)
        (hi x0 x1 x3 x4 0 slices_S256x1024_o0_0_S64x1024 inb_S256x1024_S64x1024_0_0 inb_S4x1x1024_S1x1x1024_0_0_0)))
    (sumSq (lo x0 x1 x2 x4 1 slices_S256x1024_o64_0_S64x1024 inb_S256x1024_S64x1024_64_0 inb_S4x1x1024_S1x1x1024_1_0_0)
        (hi x0 x1 x3 x4 1 slices_S256x1024_o64_0_S64x1024 inb_S256x1024_S64x1024_64_0 inb_S4x1x1024_S1x1x1024_1_0_0)))
    (sumSq (lo x0 x1 x2 x4 2 slices_S256x1024_o128_0_S64x1024 inb_S256x1024_S64x1024_128_0 inb_S4x1x1024_S1x1x1024_2_0_0)
        (hi x0 x1 x3 x4 2 slices_S256x1024_o128_0_S64x1024 inb_S256x1024_S64x1024_128_0 inb_S4x1x1024_S1x1x1024_2_0_0)))
    (sumSq (lo x0 x1 x2 x4 3 slices_S256x1024_o192_0_S64x1024 inb_S256x1024_S64x1024_192_0 inb_S4x1x1024_S1x1x1024_3_0_0)
        (hi x0 x1 x3 x4 3 slices_S256x1024_o192_0_S64x1024 inb_S256x1024_S64x1024_192_0 inb_S4x1x1024_S1x1x1024_3_0_0))

/-- The block's sum of squares in a column. -/
theorem total_apply (c : Fin 1024) : total x0 x1 x2 x3 x4 (ix2 0 c) = sBlk x0 x1 x2 x3 x4 c := by
  unfold total sBlk
  have hz0 : k0_pay10 (F := Ideal) (ix2 0 c) = 0 := by pointwise [k0_pay10]
  show ((((k0_pay10 (F := Ideal) (ix2 0 c) + sumSq _ _ (ix2 0 c)) + sumSq _ _ (ix2 0 c)) + sumSq _ _ (ix2 0 c)) + sumSq _ _ (ix2 0 c) : EReal) = _
  rw [hz0, sumSq_group _ _ _ _ _ 0 (by decide), sumSq_group _ _ _ _ _ 1 (by decide), sumSq_group _ _ _ _ _ 2 (by decide),
    sumSq_group _ _ _ _ _ 3 (by decide), zero_add, sum_blocks 4 64 256 rfl, Fin.sum_univ_four]
  rfl

end Group

end Cert.Value
-- ==== Proof.WeightCases.lean ====
/- What the first kernel's body leaves in its outputs in each case of its conditionals: at the first step of a column
   block (`A`), at a middle one (`B`) and at the last (`C`). -/
module

public import proofs.«01_k».proof.Proof.WeightValue

@[expose] public section

set_option maxRecDepth 16384

noncomputable section

namespace Cert.Value

open Idealize.ShloMosaic Idealize.ShloMosaic.TcCoe Idealize.SL.Sem
open Cert.KernelIdeal Cert.KernelIdeal.Gen Cert.KernelIdeal.Gen.Whole

variable (c : Dev nD) (i : grid0.Coords) (arg2 : Memref sig .tc .vmem S256x1024 .i8) (harg2 : arg2.IsWhole) (arg3 : Memref sig .tc .vmem S4x1x1024 .bf16) (harg3 : arg3.IsWhole)
  (arg4 : Memref sig .tc .vmem S256x32 .bf16) (harg4 : arg4.IsWhole) (arg5 : Memref sig .tc .vmem S256x32 .bf16) (harg5 : arg5.IsWhole) (arg6 : Memref sig .tc .vmem S32x1024 .bf16) (harg6 : arg6.IsWhole)
  (arg7 : Memref sig .tc .vmem S1x1024 .f32) (harg7 : arg7.IsWhole) (arg8 : Memref sig .tc .vmem S512x1024 .bf16) (harg8 : arg8.IsWhole) (arg9 : Memref sig .tc .vmem S1x1024 .f32) (harg9 : arg9.IsWhole)
  (arg10 : Memref sig .tc .vmem S1x1024 .f32) (harg10 : arg10.IsWhole)
  (x0 : Vec Ideal S256x1024 .i8) (x1 : Vec Ideal S4x1x1024 .bf16) (x2 x3 : Vec Ideal S256x32 .bf16) (x4 : Vec Ideal S32x1024 .bf16) (x5 xo : Vec Ideal S1x1024 .f32)

/-- Case A: the weight's block. -/
theorem out_A_6 (hc0 : cond0_0 i) (hc1 : ¬cond0_1 i) :
    out0_A_6 (F := Ideal) c i arg2 harg2 arg3 harg3 arg4 harg4 arg5 harg5 arg6 harg6 arg7 harg7 arg8 harg8 arg9 harg9 arg10 harg10 hc0 hc1 x0 x1 x2 x3 x4 x5 = View.canon (stores x0 x1 x2 x3 x4) := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp only [View.readAt_eq_ld, harg2.read_unread, harg3.read_unread, harg4.read_unread, harg5.read_unread, harg6.read_unread, harg7.read_unread, harg9.read_unread, View.ld_unit_zero (S := S256x32) hz, View.ld_unit_zero (S := S32x1024) hz, View.ld_unit_zero (S := S1x1024) hz]
  rfl

/-- Case B: the weight's block. -/
theorem out_B_6 (hc0 : ¬cond0_0 i) (hc1 : ¬cond0_1 i) :
    out0_B_6 (F := Ideal) c i arg2 harg2 arg3 harg3 arg4 harg4 arg5 harg5 arg6 harg6 arg7 harg7 arg8 harg8 arg9 harg9 arg10 harg10 hc0 hc1 x0 x1 x2 x3 x4 x5 xo = View.canon (stores x0 x1 x2 x3 x4) := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xo)]
  unfold kernelRun0_B
  dsimp only
  sl_unfold_words
  simp only [View.readAt_eq_ld, harg2.read_unread, harg3.read_unread, harg4.read_unread, harg5.read_unread, harg6.read_unread, harg7.read_unread, harg9.read_unread, View.ld_unit_zero (S := S256x32) hz, View.ld_unit_zero (S := S32x1024) hz, View.ld_unit_zero (S := S1x1024) hz]
  rfl

/-- Case C: the weight's block. -/
theorem out_C_6 (hc0 : ¬cond0_0 i) (hc1 : cond0_1 i) :
    out0_C_6 (F := Ideal) c i arg2 harg2 arg3 harg3 arg4 harg4 arg5 harg5 arg6 harg6 arg7 harg7 arg8 harg8 arg9 harg9 arg10 harg10 hc0 hc1 x0 x1 x2 x3 x4 x5 xo = View.canon (stores x0 x1 x2 x3 x4) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xo)]
  unfold kernelRun0_C
  dsimp only
  sl_unfold_words
  simp only [View.readAt_eq_ld, harg2.read_unread, harg3.read_unread, harg4.read_unread, harg5.read_unread, harg6.read_unread, harg7.read_unread, harg9.read_unread, View.ld_unit_zero (S := S256x32) hz, View.ld_unit_zero (S := S32x1024) hz, View.ld_unit_zero (S := S1x1024) hz]
  rfl

/-- Case A: the running column sum. -/
theorem out_A_7 (hc0 : cond0_0 i) (hc1 : ¬cond0_1 i) :
    out0_A_7 (F := Ideal) c i arg2 harg2 arg3 harg3 arg4 harg4 arg5 harg5 arg6 harg6 arg7 harg7 arg8 harg8 arg9 harg9 arg10 harg10 hc0 hc1 x0 x1 x2 x3 x4 x5 = addf (k0_pay7 (F := Ideal)) (total x0 x1 x2 x3 x4) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1024) hz]
  simp only [View.readCov_unit_zero (S := S1x1024) _ hz]
  simp only [View.readAt_eq_ld, harg2.read_unread, harg3.read_unread, harg4.read_unread, harg5.read_unread, harg6.read_unread, harg7.read_unread, harg9.read_unread, View.ld_unit_zero (S := S256x32) hz, View.ld_unit_zero (S := S32x1024) hz, View.ld_unit_zero (S := S1x1024) hz]
  unfold k0_pay4
  simp only [shapeCast_self]
  rfl

/-- Case B: the running column sum. -/
theorem out_B_7 (hc0 : ¬cond0_0 i) (hc1 : ¬cond0_1 i) :
    out0_B_7 (F := Ideal) c i arg2 harg2 arg3 harg3 arg4 harg4 arg5 harg5 arg6 harg6 arg7 harg7 arg8 harg8 arg9 harg9 arg10 harg10 hc0 hc1 x0 x1 x2 x3 x4 x5 xo = addf xo (total x0 x1 x2 x3 x4) := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 x5 xo)]
  unfold kernelRun0_B
  dsimp only
  sl_unfold_words
  rw [View.canon_cons_unit_zero (S := S1x1024) hz]
  simp only [View.readAt_eq_ld, harg2.read_unread, harg3.read_unread, harg4.read_unread, harg5.read_unread, harg6.read_unread, harg7.read_unread, harg9.read_unread, View.ld_unit_zero (S := S256x32) hz, View.ld_unit_zero (S := S32x1024) hz, View.ld_unit_zero (S := S1x1024) hz]
  unfold k0_pay4
  simp only [shapeCast_self]
  rfl

/-- Case C: the running column sum. -/
theorem out_C_7 (hc0 : ¬cond0_0 i) (hc1 : cond0_1 i) :
    out0_C_7 (F := Ideal) c i arg2 harg2 arg3 harg3 arg4 harg4 arg5 harg5 arg6 harg6 arg7 harg7 arg8 harg8 arg9 harg9 arg10 harg10 hc0 hc1 x0 x1 x2 x3 x4 x5 xo = sqrt (addf xo (total x0 x1 x2 x3 x4)) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xo)]
  unfold kernelRun0_C
  dsimp only
  sl_unfold_words
  rw [View.canon_cons_unit_zero (S := S1x1024) hz]
  simp only [View.readCov_unit_zero (S := S1x1024) _ hz]
  simp only [View.readAt_eq_ld, harg2.read_unread, harg3.read_unread, harg4.read_unread, harg5.read_unread, harg6.read_unread, harg7.read_unread, harg9.read_unread, View.ld_unit_zero (S := S256x32) hz, View.ld_unit_zero (S := S32x1024) hz, View.ld_unit_zero (S := S1x1024) hz]
  unfold k0_pay5 k0_pay4
  simp only [shapeCast_self]
  rfl

/-- Case C: the output factor. -/
theorem out_C_8 (hc0 : ¬cond0_0 i) (hc1 : cond0_1 i) :
    out0_C_8 (F := Ideal) c i arg2 harg2 arg3 harg3 arg4 harg4 arg5 harg5 arg6 harg6 arg7 harg7 arg8 harg8 arg9 harg9 arg10 harg10 hc0 hc1 x0 x1 x2 x3 x4 x5 xo = divf x5 (sqrt (addf xo (total x0 x1 x2 x3 x4))) := by
  unfold out0_C_8
  rw [View.read_writes_eq_canon _ _ _ (cover0_C_8 c i arg2 harg2 arg3 harg3 arg4 harg4 arg5 harg5 arg6 harg6 arg7 harg7 arg8 harg8 arg9 harg9 arg10 harg10 hc0 hc1 x0 x1 x2 x3 x4 x5 xo)]
  unfold kernelRun0_C
  dsimp only
  sl_unfold_words
  rw [View.canon_cons_unit_zero (S := S1x1024) hz]
  simp only [View.readCov_unit_zero (S := S1x1024) _ hz]
  simp only [View.readAt_eq_ld, harg2.read_unread, harg3.read_unread, harg4.read_unread, harg5.read_unread, harg6.read_unread, harg7.read_unread, harg9.read_unread, View.ld_unit_zero (S := S256x32) hz, View.ld_unit_zero (S := S32x1024) hz, View.ld_unit_zero (S := S1x1024) hz]
  unfold k0_pay6 k0_pay5 k0_pay4
  simp only [shapeCast_self]
  rfl

end Cert.Value
-- ==== Proof.WeightArrays.lean ====
/- What the first region leaves in its three arrays: the weight with its even and odd rows interleaved, the square root
   of each column's sum of squares, and the magnitudes divided by it. -/
module

public import proofs.«01_k».proof.Proof.WeightCases

@[expose] public section

set_option maxRecDepth 16384

noncomputable section

namespace Cert.Value

open Idealize.ShloMosaic Idealize.ShloMosaic.TcCoe Idealize.SL.Sem
open Cert.KernelIdeal Cert.KernelIdeal.Gen Cert.KernelIdeal.Gen.Whole

/-! ## The arrays as functions of the operands -/

/-- Row `r` of one half of the weight (`p = 0` the low nibbles, `p = 1` the high ones): the code times its group's scale,
    plus twice the low-rank product. -/
def wArr (p : Nat) (A1 : Vec Ideal S6144x28672 .i8) (SC : Vec Ideal S96x1x28672 .bf16) (A : Vec Ideal S6144x32 .bf16)
    (B : Vec Ideal S32x28672 .bf16) (r : Fin 6144) (j : Fin 28672) : EReal :=
  nib p (A1 (ix2 r j)) * SC (ix3 ⟨r.val / 64, by omega⟩ 0 j) + two * ∑ q : Fin 32, A (ix2 r q) * B (ix2 q j)

/-- The whole weight: low rows at the even positions, high rows at the odd ones. -/
def vArr (A1 : Vec Ideal S6144x28672 .i8) (SC : Vec Ideal S96x1x28672 .bf16) (Ae Ao : Vec Ideal S6144x32 .bf16)
    (B : Vec Ideal S32x28672 .bf16) (R : Fin 12288) (j : Fin 28672) : EReal :=
  if R.val % 2 = 0 then wArr 0 A1 SC Ae B ⟨R.val / 2, by omega⟩ j else wArr 1 A1 SC Ao B ⟨R.val / 2, by omega⟩ j

/-- Row `r`'s share of column `j`'s sum of squares. -/
def sqArr (A1 : Vec Ideal S6144x28672 .i8) (SC : Vec Ideal S96x1x28672 .bf16) (Ae Ao : Vec Ideal S6144x32 .bf16)
    (B : Vec Ideal S32x28672 .bf16) (j : Fin 28672) (r : Fin 6144) : EReal :=
  wArr 0 A1 SC Ae B r j * wArr 0 A1 SC Ae B r j + wArr 1 A1 SC Ao B r j * wArr 1 A1 SC Ao B r j

/-- Column `j`'s length: the square root of its sum of squares. -/
def lenArr (A1 : Vec Ideal S6144x28672 .i8) (SC : Vec Ideal S96x1x28672 .bf16) (Ae Ao : Vec Ideal S6144x32 .bf16)
    (B : Vec Ideal S32x28672 .bf16) (j : Fin 28672) : EReal :=
  Ideal.sqrt (∑ r : Fin 6144, sqArr A1 SC Ae Ao B j r)

/-! ## The windows' blocks -/

/-- Which block of the codes a grid point reads or writes. -/
theorem w0_0 : ∀ t : Fin cfg0.N, win0_0.index t 0 = t.val % 24 ∧ win0_0.index t 1 = t.val / 24 := by decide +kernel
/-- Which block of the scales a grid point reads or writes. -/
theorem w0_1 : ∀ t : Fin cfg0.N, win0_1.index t 0 = t.val % 24 ∧ win0_1.index t 1 = 0 ∧ win0_1.index t 2 = t.val / 24 := by decide +kernel
/-- Which block of the even adapter rows a grid point reads or writes. -/
theorem w0_2 : ∀ t : Fin cfg0.N, win0_2.index t 0 = t.val % 24 ∧ win0_2.index t 1 = 0 := by decide +kernel
/-- Which block of the odd adapter rows a grid point reads or writes. -/
theorem w0_3 : ∀ t : Fin cfg0.N, win0_3.index t 0 = t.val % 24 ∧ win0_3.index t 1 = 0 := by decide +kernel
/-- Which block of the adapter columns a grid point reads or writes. -/
theorem w0_4 : ∀ t : Fin cfg0.N, win0_4.index t 0 = 0 ∧ win0_4.index t 1 = t.val / 24 := by decide +kernel
/-- Which block of the magnitudes a grid point reads or writes. -/
theorem w0_5 : ∀ t : Fin cfg0.N, win0_5.index t 0 = 0 ∧ win0_5.index t 1 = t.val / 24 := by decide +kernel
/-- Which block of the weights a grid point reads or writes. -/
theorem w0_6 : ∀ t : Fin cfg0.N, win0_6.index t 0 = t.val % 24 ∧ win0_6.index t 1 = t.val / 24 := by decide +kernel
/-- Which block of the lengths a grid point reads or writes. -/
theorem w0_7 : ∀ t : Fin cfg0.N, win0_7.index t 0 = 0 ∧ win0_7.index t 1 = t.val / 24 := by decide +kernel
/-- Which block of the factors a grid point reads or writes. -/
theorem w0_8 : ∀ t : Fin cfg0.N, win0_8.index t 0 = 0 ∧ win0_8.index t 1 = t.val / 24 := by decide +kernel

variable (V : (c : Dev nD) → (b : Ref sig .tc) → Buf (Elt Ideal) ((c : Thread nD τ).loc b)) (c : Dev nD)

/-- The first launch has 672 grid points. -/
theorem lt0 (t : Fin cfg0.N) : t.val < 672 := lt_of_lt_of_eq t.isLt (show cfg0.N = 672 from N_0)

/-- The column of the array a point's block column is. -/
def col (t : Fin cfg0.N) (cc : Fin 1024) : Fin 28672 := ⟨1024 * (t.val / 24) + cc.val, by have := lt0 t; omega⟩

/-- The row of the array a point's block row is. -/
def row (t : Fin cfg0.N) (r : Fin 256) : Fin 6144 := ⟨256 * (t.val % 24) + r.val, by omega⟩

/-- The staged block of the codes, element by element, in terms of the whole array. -/
theorem blk_0 (t : Fin cfg0.N) (r : Fin 256) (cc : Fin 1024) :
    (iblk0 V c 0 t : Vec Ideal S256x1024 .i8) (ix2 r cc) = V c main_arg1 (ix2 (row t r) (col t cc)) := by
  unfold iblk0
  rw [View.read_apply]
  show V c main_arg1 _ = _
  congr 1
  funext a
  apply Fin.ext
  match a with
  | ⟨0, _⟩ => show win0_0.index t 0 * 256 + 1 * r.val = 256 * (t.val % 24) + r.val; rw [(w0_0 t).1]; omega
  | ⟨1, _⟩ => show win0_0.index t 1 * 1024 + 1 * cc.val = 1024 * (t.val / 24) + cc.val; rw [(w0_0 t).2]; omega

/-- The staged block of the scales, element by element, in terms of the whole array. -/
theorem blk_1 (t : Fin cfg0.N) (g : Fin 4) (r : Fin 256) (hg : r.val / 64 = g.val) (cc : Fin 1024) :
    (iblk0 V c 1 t : Vec Ideal S4x1x1024 .bf16) (ix3 g 0 cc)
      = V c main_v0 (ix3 ⟨(row t r).val / 64, by omega⟩ 0 (col t cc)) := by
  unfold iblk0
  rw [View.read_apply]
  show V c main_v0 _ = _
  congr 1
  funext a
  apply Fin.ext
  match a with
  | ⟨0, _⟩ => show win0_1.index t 0 * 4 + 1 * g.val = (256 * (t.val % 24) + r.val) / 64; rw [(w0_1 t).1]; omega
  | ⟨1, _⟩ => show win0_1.index t 1 * 1 + 1 * 0 = 0; rw [(w0_1 t).2.1]
  | ⟨2, _⟩ => show win0_1.index t 2 * 1024 + 1 * cc.val = 1024 * (t.val / 24) + cc.val; rw [(w0_1 t).2.2]; omega

/-- The staged block of the even adapter rows, element by element, in terms of the whole array. -/
theorem blk_2 (t : Fin cfg0.N) (r : Fin 256) (q : Fin 32) :
    (iblk0 V c 2 t : Vec Ideal S256x32 .bf16) (ix2 r q) = V c main_v1 (ix2 (row t r) q) := by
  unfold iblk0
  rw [View.read_apply]
  show V c main_v1 _ = _
  congr 1
  funext a
  apply Fin.ext
  match a with
  | ⟨0, _⟩ => show win0_2.index t 0 * 256 + 1 * r.val = 256 * (t.val % 24) + r.val; rw [(w0_2 t).1]; omega
  | ⟨1, _⟩ => show win0_2.index t 1 * 32 + 1 * q.val = q.val; rw [(w0_2 t).2]; omega

/-- The staged block of the odd adapter rows, element by element, in terms of the whole array. -/
theorem blk_3 (t : Fin cfg0.N) (r : Fin 256) (q : Fin 32) :
    (iblk0 V c 3 t : Vec Ideal S256x32 .bf16) (ix2 r q) = V c main_v2 (ix2 (row t r) q) := by
  unfold iblk0
  rw [View.read_apply]
  show V c main_v2 _ = _
  congr 1
  funext a
  apply Fin.ext
  match a with
  | ⟨0, _⟩ => show win0_3.index t 0 * 256 + 1 * r.val = 256 * (t.val % 24) + r.val; rw [(w0_3 t).1]; omega
  | ⟨1, _⟩ => show win0_3.index t 1 * 32 + 1 * q.val = q.val; rw [(w0_3 t).2]; omega

/-- The staged block of the adapter columns, element by element, in terms of the whole array. -/
theorem blk_4 (t : Fin cfg0.N) (q : Fin 32) (cc : Fin 1024) :
    (iblk0 V c 4 t : Vec Ideal S32x1024 .bf16) (ix2 q cc) = V c main_arg4 (ix2 q (col t cc)) := by
  unfold iblk0
  rw [View.read_apply]
  show V c main_arg4 _ = _
  congr 1
  funext a
  apply Fin.ext
  match a with
  | ⟨0, _⟩ => show win0_4.index t 0 * 32 + 1 * q.val = q.val; rw [(w0_4 t).1]; omega
  | ⟨1, _⟩ => show win0_4.index t 1 * 1024 + 1 * cc.val = 1024 * (t.val / 24) + cc.val; rw [(w0_4 t).2]; omega

/-- The staged block of the magnitudes, element by element, in terms of the whole array. -/
theorem blk_5 (t : Fin cfg0.N) (cc : Fin 1024) :
    (iblk0 V c 5 t : Vec Ideal S1x1024 .f32) (ix2 0 cc) = V c main_v3 (ix2 0 (col t cc)) := by
  unfold iblk0
  rw [View.read_apply]
  show V c main_v3 _ = _
  congr 1
  funext a
  apply Fin.ext
  match a with
  | ⟨0, _⟩ => show win0_5.index t 0 * 1 + 1 * 0 = 0; rw [(w0_5 t).1]
  | ⟨1, _⟩ => show win0_5.index t 1 * 1024 + 1 * cc.val = 1024 * (t.val / 24) + cc.val; rw [(w0_5 t).2]; omega

/-- The half-weight of a point's blocks is the array's, at the rows and columns the blocks sit at: low nibbles. -/
theorem wBlk_lo (t : Fin cfg0.N) (r : Fin 256) (cc : Fin 1024) :
    wBlk 0 (iblk0 V c 0 t) (iblk0 V c 1 t) (iblk0 V c 2 t) (iblk0 V c 4 t) r cc
      = wArr 0 (V c main_arg1) (V c main_v0) (V c main_v1) (V c main_arg4) (row t r) (col t cc) := by
  unfold wBlk wArr
  rw [blk_0, blk_1 V c t _ r rfl]
  simp only [blk_2, blk_4]

/-- The same for the high nibbles. -/
theorem wBlk_hi (t : Fin cfg0.N) (r : Fin 256) (cc : Fin 1024) :
    wBlk 1 (iblk0 V c 0 t) (iblk0 V c 1 t) (iblk0 V c 3 t) (iblk0 V c 4 t) r cc
      = wArr 1 (V c main_arg1) (V c main_v0) (V c main_v2) (V c main_arg4) (row t r) (col t cc) := by
  unfold wBlk wArr
  rw [blk_0, blk_1 V c t _ r rfl]
  simp only [blk_3, blk_4]

end Cert.Value
-- ==== Proof.WeightRun.lean ====
/- The first region run to its end: its three arrays in closed form over what the region finds in its operands. -/
module

public import proofs.«01_k».proof.Proof.WeightArrays

@[expose] public section

set_option maxRecDepth 16384

noncomputable section

namespace Cert.Value

open Idealize.ShloMosaic Idealize.ShloMosaic.TcCoe Idealize.SL.Sem
open Cert.KernelIdeal Cert.KernelIdeal.Gen Cert.KernelIdeal.Gen.Whole

variable (V : (c : Dev nD) → (b : Ref sig .tc) → Buf (Elt Ideal) ((c : Thread nD τ).loc b)) (c : Dev nD)

/-- Row `r`'s share of column `j`'s sum of squares, over the region's own operands. -/
abbrev sqV (j : Fin 28672) (r : Fin 6144) : EReal :=
  sqArr (V c main_arg1) (V c main_v0) (V c main_v1) (V c main_v2) (V c main_arg4) j r

/-- Column `j`'s length, over the region's own operands. -/
abbrev lenV (j : Fin 28672) : EReal :=
  lenArr (V c main_arg1) (V c main_v0) (V c main_v1) (V c main_v2) (V c main_arg4) j

/-- The weight, over the region's own operands. -/
abbrev weightV (R : Fin 12288) (j : Fin 28672) : EReal :=
  vArr (V c main_arg1) (V c main_v0) (V c main_v1) (V c main_v2) (V c main_arg4) R j

/-- Step `k`'s share of column `j`'s sum of squares: 256 consecutive rows. -/
def stepSq (j : Fin 28672) (k : ℕ) : EReal :=
  if h : k < 24 then ∑ r : Fin 256, sqV V c j ⟨256 * k + r.val, by omega⟩ else 0

/-- The 24 steps together are all the rows. -/
theorem sum_stepSq (j : Fin 28672) : ∑ k ∈ Finset.range 24, stepSq V c j k = ∑ r : Fin 6144, sqV V c j r := by
  rw [sum_blocks 24 256 6144 rfl, Finset.sum_range]
  refine Finset.sum_congr rfl fun k _ => ?_
  unfold stepSq
  rw [dif_pos k.isLt]

/-- A point adds its step's share. -/
theorem total_point (t : Fin cfg0.N) (cc : Fin 1024) :
    total (iblk0 V c 0 t) (iblk0 V c 1 t) (iblk0 V c 2 t) (iblk0 V c 3 t) (iblk0 V c 4 t) (ix2 0 cc)
      = stepSq V c (col t cc) (t.val % 24) := by
  rw [total_apply]
  unfold sBlk stepSq
  rw [dif_pos (Nat.mod_lt _ (by decide))]
  refine Finset.sum_congr rfl fun r _ => ?_
  rw [wBlk_lo, wBlk_hi]
  rfl

/-- The running sum starts at zero. -/
theorem start_apply (cc : Fin 1024) : k0_pay7 (F := Ideal) (ix2 0 cc) = (0 : EReal) := by pointwise [k0_pay7]

/-- The running sum of squares after a point that is not the last of its column block. -/
theorem running (n : ℕ) : ∀ (hn : n < cfg0.N), ¬n % 24 = 23 → ∀ cc : Fin 1024,
    (outsAt0 V c n hn).2.1 (ix2 0 cc)
      = ∑ k ∈ Finset.range (n % 24 + 1), stepSq V c (col ⟨n, hn⟩ cc) k := by
  induction n with
  | zero =>
    intro hn h1 cc
    have e := outsAt0_A V c ⟨0, hn⟩ (Nat.zero_mod _) h1
    dsimp only at e
    rw [e]
    dsimp only
    rw [out_A_7]
    show (k0_pay7 (F := Ideal) (ix2 0 cc) + total _ _ _ _ _ (ix2 0 cc) : EReal) = _
    rw [start_apply, total_point, zero_add]
    simp
  | succ n ih =>
    intro hn h1 cc
    by_cases h0 : (n + 1) % 24 = 0
    · have e := outsAt0_A V c ⟨n + 1, hn⟩ h0 h1
      dsimp only at e
      rw [e]
      dsimp only
      rw [out_A_7]
      show (k0_pay7 (F := Ideal) (ix2 0 cc) + total _ _ _ _ _ (ix2 0 cc) : EReal) = _
      rw [start_apply, total_point, zero_add, h0]
      simp [h0]
    · have e := outsAt0_B V c ⟨n + 1, hn⟩ h0 h1
      dsimp only at e
      rw [e]
      dsimp only
      rw [out_B_7]
      show ((outsAt0 V c n _).2.1 (ix2 0 cc) + total _ _ _ _ _ (ix2 0 cc) : EReal) = _
      rw [ih _ (by omega) cc, total_point, Finset.sum_range_succ _ ((n + 1) % 24)]
      have em : n % 24 + 1 = (n + 1) % 24 := by omega
      have ec : col ⟨n, Nat.lt_of_succ_lt hn⟩ cc = col ⟨n + 1, hn⟩ cc :=
        Fin.ext (by show 1024 * (n / 24) + cc.val = 1024 * ((n + 1) / 24) + cc.val; omega)
      rw [em, ec]

/-- The sum of squares at the last point of a column block, before its root is taken. -/
theorem last_sum (t : Fin cfg0.N) (h1 : t.val % 24 = 23) (cc : Fin 1024) :
    ((outsAt0 V c (t.val - 1) (Nat.lt_of_le_of_lt (Nat.sub_le _ _) t.isLt)).2.1 (ix2 0 cc)
      + total (iblk0 V c 0 t) (iblk0 V c 1 t) (iblk0 V c 2 t) (iblk0 V c 3 t) (iblk0 V c 4 t) (ix2 0 cc) : EReal)
      = ∑ r : Fin 6144, sqV V c (col t cc) r := by
  rw [running V c (t.val - 1) _ (by omega) cc, total_point, ← sum_stepSq, Finset.sum_range_succ _ 23, h1]
  have em : (t.val - 1) % 24 + 1 = 23 := by omega
  have ec : col ⟨t.val - 1, Nat.lt_of_le_of_lt (Nat.sub_le _ _) t.isLt⟩ cc = col t cc :=
    Fin.ext (by show 1024 * ((t.val - 1) / 24) + cc.val = 1024 * (t.val / 24) + cc.val; omega)
  rw [em, ec]

/-! ## What each point writes back -/

/-- The weight's block after any point. -/
theorem outs_6 (t : Fin cfg0.N) : (outsAt0 V c t.val t.isLt).1
    = View.canon (stores (iblk0 V c 0 t) (iblk0 V c 1 t) (iblk0 V c 2 t) (iblk0 V c 3 t) (iblk0 V c 4 t)) := by
  by_cases h0 : t.val % 24 = 0
  · rw [outsAt0_A V c t h0 (by omega)]; dsimp only; rw [out_A_6]
  · by_cases h1 : t.val % 24 = 23
    · rw [outsAt0_C V c t h0 h1]; dsimp only; rw [out_C_6]
    · rw [outsAt0_B V c t h0 h1]; dsimp only; rw [out_B_6]

/-- The column lengths' block after the last point of a column block. -/
theorem outs_7 (t : Fin cfg0.N) (h1 : t.val % 24 = 23) (cc : Fin 1024) :
    (outsAt0 V c t.val t.isLt).2.1 (ix2 0 cc) = lenV V c (col t cc) := by
  rw [outsAt0_C V c t (by omega) h1]
  dsimp only
  rw [out_C_7]
  show Ideal.sqrt ((outsAt0 V c (t.val - 1) _).2.1 (ix2 0 cc) + total _ _ _ _ _ (ix2 0 cc) : EReal) = _
  rw [last_sum V c t h1 cc]
  rfl

/-- The factors' block after the last point of a column block. -/
theorem outs_8 (t : Fin cfg0.N) (h1 : t.val % 24 = 23) (cc : Fin 1024) :
    (outsAt0 V c t.val t.isLt).2.2 (ix2 0 cc) = Ideal.div (V c main_v3 (ix2 0 (col t cc))) (lenV V c (col t cc)) := by
  rw [outsAt0_C V c t (by omega) h1]
  dsimp only
  rw [out_C_8]
  show Ideal.div ((iblk0 V c 5 t : Vec Ideal S1x1024 .f32) (ix2 0 cc))
    (Ideal.sqrt ((outsAt0 V c (t.val - 1) _).2.1 (ix2 0 cc) + total _ _ _ _ _ (ix2 0 cc) : EReal)) = _
  rw [last_sum V c t h1 cc, blk_5]
  rfl

/-! ## The arrays after the run -/

/-- The weight array's contents. -/
def wantW : Vec Ideal S12288x28672 .bf16 := fun i => weightV V c (i 0) (i 1)

/-- The length array's contents. -/
def wantN : Vec Ideal S1x28672 .f32 := fun i => lenV V c (i 1)

/-- The factor array's contents. -/
def wantF : Vec Ideal S1x28672 .f32 := fun i => Ideal.div (V c main_v3 (ix2 0 (i 1))) (lenV V c (i 1))

/-- A point writes back its block of the weight. -/
theorem flushed_6 (t : Fin cfg0.N) :
    (dat0 V c).flushed 6 t = ((cfg0.win 6).blk t).view.read (Elt Ideal) (wantW V c) := by
  show (cfg0.win 6).cut (grid0.coords t) ((dat0 V c).after 6 t) = _
  rw [after0_6, outs_6]
  funext y
  rw [View.read_apply]
  show View.canon (stores _ _ _ _ _) (y : S512x1024.Idx) = _
  obtain ⟨R, cc, rfl⟩ : ∃ (R : Fin 512) (cc : Fin 1024), y = ix2 R cc := ⟨y 0, y 1, eq_ix2 y⟩
  rw [canon_stores]
  have e0 : ((((cfg0.win 6).blk t).view.emb (ix2 R cc)) 0 : Fin 12288) = (⟨512 * (t.val % 24) + R.val, by omega⟩ : Fin 12288) := by
    apply Fin.ext
    show win0_6.index t 0 * 512 + 1 * R.val = 512 * (t.val % 24) + R.val
    rw [(w0_6 t).1]; omega
  have e1 : ((((cfg0.win 6).blk t).view.emb (ix2 R cc)) 1 : Fin 28672) = col t cc := by
    apply Fin.ext
    show win0_6.index t 1 * 1024 + 1 * cc.val = 1024 * (t.val / 24) + cc.val
    rw [(w0_6 t).2]; omega
  show _ = weightV V c ((((cfg0.win 6).blk t).view.emb (ix2 R cc)) 0) ((((cfg0.win 6).blk t).view.emb (ix2 R cc)) 1)
  rw [e0, e1]
  unfold vBlk weightV vArr
  have er : row t ⟨R.val / 2, by omega⟩ = ⟨(512 * (t.val % 24) + R.val) / 2, by omega⟩ :=
    Fin.ext (by show 256 * (t.val % 24) + R.val / 2 = (512 * (t.val % 24) + R.val) / 2; omega)
  by_cases h : R.val % 2 = 0
  · rw [if_pos h, if_pos (by show (512 * (t.val % 24) + R.val) % 2 = 0; omega), wBlk_lo, er]
  · rw [if_neg h, if_neg (by show ¬(512 * (t.val % 24) + R.val) % 2 = 0; omega), wBlk_hi, er]

/-- The last point of a column block writes back its block of the lengths. -/
theorem flushed_7 (t : Fin cfg0.N) (h1 : t.val % 24 = 23) :
    (dat0 V c).flushed 7 t = ((cfg0.win 7).blk t).view.read (Elt Ideal) (wantN V c) := by
  show (cfg0.win 7).cut (grid0.coords t) ((dat0 V c).after 7 t) = _
  rw [after0_7]
  funext y
  rw [View.read_apply]
  obtain ⟨R, cc, rfl⟩ : ∃ (R : Fin 1) (cc : Fin 1024), y = ix2 R cc := ⟨y 0, y 1, eq_ix2 y⟩
  obtain rfl : R = 0 := Subsingleton.elim _ _
  show (outsAt0 V c t.val t.isLt).2.1 (ix2 0 cc) = lenV V c ((((cfg0.win 7).blk t).view.emb (ix2 0 cc)) 1)
  have e1 : ((((cfg0.win 7).blk t).view.emb (ix2 0 cc)) 1 : Fin 28672) = col t cc := by
    apply Fin.ext
    show win0_7.index t 1 * 1024 + 1 * cc.val = 1024 * (t.val / 24) + cc.val
    rw [(w0_7 t).2]; omega
  rw [e1, outs_7 V c t h1]

/-- The last point of a column block writes back its block of the factors. -/
theorem flushed_8 (t : Fin cfg0.N) (h1 : t.val % 24 = 23) :
    (dat0 V c).flushed 8 t = ((cfg0.win 8).blk t).view.read (Elt Ideal) (wantF V c) := by
  show (cfg0.win 8).cut (grid0.coords t) ((dat0 V c).after 8 t) = _
  rw [after0_8]
  funext y
  rw [View.read_apply]
  obtain ⟨R, cc, rfl⟩ : ∃ (R : Fin 1) (cc : Fin 1024), y = ix2 R cc := ⟨y 0, y 1, eq_ix2 y⟩
  obtain rfl : R = 0 := Subsingleton.elim _ _
  show (outsAt0 V c t.val t.isLt).2.2 (ix2 0 cc)
    = Ideal.div (V c main_v3 (ix2 0 ((((cfg0.win 8).blk t).view.emb (ix2 0 cc)) 1))) (lenV V c ((((cfg0.win 8).blk t).view.emb (ix2 0 cc)) 1))
  have e1 : ((((cfg0.win 8).blk t).view.emb (ix2 0 cc)) 1 : Fin 28672) = col t cc := by
    apply Fin.ext
    show win0_8.index t 1 * 1024 + 1 * cc.val = 1024 * (t.val / 24) + cc.val
    rw [(w0_8 t).2]; omega
  rw [e1, outs_8 V c t h1]

/-- The weight array after the region. -/
theorem final_6 : (dat0 V c).arrAt 6 cfg0.N = wantW V c :=
  (dat0 V c).arrAt_eq_of_cover 6 (wantW V c) (fun t _ => flushed_6 V c t) fun i => by
    have hi0 : (i 0 : Nat) < 12288 := (i 0).isLt
    have hi1 : (i 1 : Nat) < 28672 := (i 1).isLt
    let t : Fin cfg0.N := ⟨24 * ((i 1 : Nat) / 1024) + (i 0 : Nat) / 512, lt_of_lt_of_eq (by omega) (show cfg0.N = 672 from N_0).symm⟩
    have ht0 : t.val % 24 = (i 0 : Nat) / 512 := by show (24 * ((i 1 : Nat) / 1024) + (i 0 : Nat) / 512) % 24 = _; omega
    have ht1 : t.val / 24 = (i 1 : Nat) / 1024 := by show (24 * ((i 1 : Nat) / 1024) + (i 0 : Nat) / 512) / 24 = _; omega
    refine ⟨t, flush0_6 t, ?_⟩
    show i ∈ ((View.whole main_v4_0).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(w0_6 t).1, ht0]; omega
    | ⟨1, _⟩ =>
      show win0_6.index t 1 * 1024 ≤ (i 1 : Nat) ∧ (i 1 : Nat) < win0_6.index t 1 * 1024 + 1024
      rw [(w0_6 t).2, ht1]; omega

/-- The point that writes back column `j`'s block of the lengths and factors. -/
theorem last_point (j : Nat) (hj : j < 28672) : ∃ t : Fin cfg0.N, t.val % 24 = 23 ∧ t.val / 24 = j / 1024 :=
  ⟨⟨24 * (j / 1024) + 23, lt_of_lt_of_eq (by omega) (show cfg0.N = 672 from N_0).symm⟩,
    by show (24 * (j / 1024) + 23) % 24 = 23; omega, by show (24 * (j / 1024) + 23) / 24 = j / 1024; omega⟩

/-- The length array after the region. -/
theorem final_7 : (dat0 V c).arrAt 7 cfg0.N = wantN V c :=
  (dat0 V c).arrAt_eq_of_cover 7 (wantN V c) (fun t h => flushed_7 V c t ((flush0_7 t).mp h)) fun i => by
    have hi0 : (i 0 : Nat) < 1 := (i 0).isLt
    obtain ⟨t, h23, ht⟩ := last_point (i 1 : Nat) (i 1).isLt
    refine ⟨t, (flush0_7 t).mpr h23, ?_⟩
    show i ∈ ((View.whole main_v4_1).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [(w0_7 t).1]; omega
    | ⟨1, _⟩ =>
      show win0_7.index t 1 * 1024 ≤ (i 1 : Nat) ∧ (i 1 : Nat) < win0_7.index t 1 * 1024 + 1024
      rw [(w0_7 t).2, ht]; omega

/-- The factor array after the region. -/
theorem final_8 : (dat0 V c).arrAt 8 cfg0.N = wantF V c :=
  (dat0 V c).arrAt_eq_of_cover 8 (wantF V c) (fun t h => flushed_8 V c t ((flush0_8 t).mp h)) fun i => by
    have hi0 : (i 0 : Nat) < 1 := (i 0).isLt
    obtain ⟨t, h23, ht⟩ := last_point (i 1 : Nat) (i 1).isLt
    refine ⟨t, (flush0_8 t).mpr h23, ?_⟩
    show i ∈ ((View.whole main_v4_2).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [(w0_8 t).1]; omega
    | ⟨1, _⟩ =>
      show win0_8.index t 1 * 1024 ≤ (i 1 : Nat) ∧ (i 1 : Nat) < win0_8.index t 1 * 1024 + 1024
      rw [(w0_8 t).2, ht]; omega

end Cert.Value
-- ==== Proof.MatmulValue.lean ====
/- What the second kernel's body leaves at one grid point: the running product at each step, and at the last one the
   product scaled column by column. -/
module

public import proofs.«01_k».proof.Proof.Sums
public import proofs.«01_k».proof.Proof.KernelIdealMatmul
public import Idealize.ShloMosaic.Lib.Pipeline.Value
public import Idealize.ShloMosaic.Lib.Pointwise
public import Idealize.ShloMosaic.Lib.Tactic

@[expose] public section

set_option maxRecDepth 16384

noncomputable section

namespace Cert.Value

open Idealize.ShloMosaic Idealize.ShloMosaic.TcCoe Idealize.SL.Sem
open Cert.KernelIdeal Cert.KernelIdeal.Gen Cert.KernelIdeal.Gen.Whole

/-- Two zero offsets are the zero offset. -/
theorem hz2 : (![0, 0] : Fin 2 → Nat) = fun _ => 0 := funext fun a => by fin_cases a <;> rfl

/-- A step's payload at an element: the running product plus the step's dot product. -/
theorem step_apply (xs : Vec Ideal S1024x1024 .f32) (x0 : Vec Ideal S1024x4096 .bf16) (x1 : Vec Ideal S4096x1024 .bf16)
    (r c : Fin 1024) : k1_pay2 (F := Ideal) xs x0 x1 (ix2 r c)
      = (xs (ix2 r c) + ∑ q : Fin 4096, x0 (ix2 r q) * x1 (ix2 q c) : EReal) := by
  pointwise [k1_pay2]

/-- The running product starts at zero. -/
theorem zero_apply (r c : Fin 1024) : k1_pay1 (F := Ideal) (ix2 r c) = (0 : EReal) := by pointwise [k1_pay1]

/-- The last step's payload at an element: the product times its column's factor. -/
theorem scaled_apply (xs : Vec Ideal S1024x1024 .f32) (x2 : Vec Ideal S1x1024 .f32) (r c : Fin 1024) :
    k1_pay3 (F := Ideal) xs x2 (ix2 r c) = (xs (ix2 r c) * x2 (ix2 0 c) : EReal) := by
  pointwise [k1_pay3]

variable (c : Dev nD) (i : grid1.Coords) (arg3 : Memref sig .tc .vmem S1024x4096 .bf16) (harg3 : arg3.IsWhole)
  (arg4 : Memref sig .tc .vmem S4096x1024 .bf16) (harg4 : arg4.IsWhole) (arg5 : Memref sig .tc .vmem S1x1024 .f32) (harg5 : arg5.IsWhole)
  (arg6 : Memref sig .tc .vmem S1024x1024 .bf16) (harg6 : arg6.IsWhole) (arg7 : Memref sig .tc .vmem S1024x1024 .f32) (harg7 : arg7.IsWhole)
  (x0 : Vec Ideal S1024x4096 .bf16) (x1 : Vec Ideal S4096x1024 .bf16) (x2 : Vec Ideal S1x1024 .f32) (xs0 : Vec Ideal S1024x1024 .f32)

/-- Case A: the running product starts with the step's. -/
theorem sout_A (hc0 : cond1_0 i) (hc1 : ¬cond1_1 i) :
    sout1_A_0 (F := Ideal) c i arg3 harg3 arg4 harg4 arg5 harg5 arg6 harg6 arg7 harg7 hc0 hc1 x0 x1 x2 = k1_pay2 (k1_pay1 (F := Ideal)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  simp only [View.readAt_eq_ld, harg3.read_unread, harg4.read_unread, harg5.read_unread, harg7.read_unread,
    View.canon_cons_unit_zero (S := S1024x1024) hz2, View.readCov_unit_zero (S := S1024x1024) _ hz2,
    View.ld_unit_zero (S := S1024x4096) hz2, View.ld_unit_zero (S := S4096x1024) hz2, View.ld_unit_zero (S := S1x1024) hz2, View.ld_unit_zero (S := S1024x1024) hz2]

/-- Case B: the step's product is added. -/
theorem sout_B (hc0 : ¬cond1_0 i) (hc1 : ¬cond1_1 i) :
    sout1_B_0 (F := Ideal) c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  simp only [View.readAt_eq_ld, harg3.read_unread, harg4.read_unread, harg5.read_unread, harg7.read_unread,
    View.canon_cons_unit_zero (S := S1024x1024) hz2, View.readCov_unit_zero (S := S1024x1024) _ hz2,
    View.ld_unit_zero (S := S1024x4096) hz2, View.ld_unit_zero (S := S4096x1024) hz2, View.ld_unit_zero (S := S1x1024) hz2, View.ld_unit_zero (S := S1024x1024) hz2]

/-- Case C: the last step's product is added and the whole is scaled. -/
theorem out_C (hc0 : ¬cond1_0 i) (hc1 : cond1_1 i) :
    out1_C_3 (F := Ideal) c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  simp only [View.readAt_eq_ld, harg3.read_unread, harg4.read_unread, harg5.read_unread, harg7.read_unread,
    View.canon_cons_unit_zero (S := S1024x1024) hz2, View.readCov_unit_zero (S := S1024x1024) _ hz2,
    View.ld_unit_zero (S := S1024x4096) hz2, View.ld_unit_zero (S := S4096x1024) hz2, View.ld_unit_zero (S := S1x1024) hz2, View.ld_unit_zero (S := S1024x1024) hz2]

end Cert.Value
-- ==== Proof.MatmulRun.lean ====
/- The second region run to its end: its result array in closed form over what the region finds in its operands. -/
module

public import proofs.«01_k».proof.Proof.MatmulValue

@[expose] public section

set_option maxRecDepth 16384

noncomputable section

namespace Cert.Value

open Idealize.ShloMosaic Idealize.ShloMosaic.TcCoe Idealize.SL.Sem
open Cert.KernelIdeal Cert.KernelIdeal.Gen Cert.KernelIdeal.Gen.Whole

/-! ## The array as a function of the operands -/

/-- One term of the product's element. -/
def termArr (X : Vec Ideal S6144x12288 .bf16) (W : Vec Ideal S12288x28672 .bf16) (R : Fin 6144) (j : Fin 28672) (q : Fin 12288) : EReal :=
  X (ix2 R q) * W (ix2 q j)

/-- The product's element times its column's factor. -/
def prodArr (X : Vec Ideal S6144x12288 .bf16) (W : Vec Ideal S12288x28672 .bf16) (f : Vec Ideal S1x28672 .f32)
    (R : Fin 6144) (j : Fin 28672) : EReal :=
  (∑ q : Fin 12288, termArr X W R j q) * f (ix2 0 j)

/-! ## The windows' blocks -/

/-- Which block of the activations a grid point reads or writes. -/
theorem w1_0 : ∀ t : Fin cfg1.N, win1_0.index t 0 = t.val / 84 ∧ win1_0.index t 1 = t.val % 3 := by decide +kernel
/-- Which block of the weights a grid point reads or writes. -/
theorem w1_1 : ∀ t : Fin cfg1.N, win1_1.index t 0 = t.val % 3 ∧ win1_1.index t 1 = t.val / 3 % 28 := by decide +kernel
/-- Which block of the factors a grid point reads or writes. -/
theorem w1_2 : ∀ t : Fin cfg1.N, win1_2.index t 0 = 0 ∧ win1_2.index t 1 = t.val / 3 % 28 := by decide +kernel
/-- Which block of the products a grid point reads or writes. -/
theorem w1_3 : ∀ t : Fin cfg1.N, win1_3.index t 0 = t.val / 84 ∧ win1_3.index t 1 = t.val / 3 % 28 := by decide +kernel

variable (V : (c : Dev nD) → (b : Ref sig .tc) → Buf (Elt Ideal) ((c : Thread nD τ).loc b)) (c : Dev nD)

/-- The second launch has 504 grid points. -/
theorem lt1 (t : Fin cfg1.N) : t.val < 504 := lt_of_lt_of_eq t.isLt (show cfg1.N = 504 from N_1)

/-- The row of the array a point's block row is. -/
def mrow (t : Fin cfg1.N) (r : Fin 1024) : Fin 6144 := ⟨1024 * (t.val / 84) + r.val, by have := lt1 t; omega⟩

/-- The column of the array a point's block column is. -/
def mcol (t : Fin cfg1.N) (cc : Fin 1024) : Fin 28672 := ⟨1024 * (t.val / 3 % 28) + cc.val, by omega⟩

/-- The position along the summed axis a point's block position is. -/
def mpos (k : ℕ) (hk : k < 3) (q : Fin 4096) : Fin 12288 := ⟨4096 * k + q.val, by omega⟩

/-- The staged block of the activations, element by element, in terms of the whole array. -/
theorem mblk_0 (t : Fin cfg1.N) (r : Fin 1024) (q : Fin 4096) :
    (iblk1 V c 0 t : Vec Ideal S1024x4096 .bf16) (ix2 r q)
      = V c main_v5 (ix2 (mrow t r) (mpos (t.val % 3) (Nat.mod_lt _ (by decide)) q)) := by
  unfold iblk1
  rw [View.read_apply]
  show V c main_v5 _ = _
  congr 1
  funext a
  apply Fin.ext
  match a with
  | ⟨0, _⟩ => show win1_0.index t 0 * 1024 + 1 * r.val = 1024 * (t.val / 84) + r.val; rw [(w1_0 t).1]; omega
  | ⟨1, _⟩ => show win1_0.index t 1 * 4096 + 1 * q.val = 4096 * (t.val % 3) + q.val; rw [(w1_0 t).2]; omega

/-- The staged block of the weights, element by element, in terms of the whole array. -/
theorem mblk_1 (t : Fin cfg1.N) (q : Fin 4096) (cc : Fin 1024) :
    (iblk1 V c 1 t : Vec Ideal S4096x1024 .bf16) (ix2 q cc)
      = V c main_v4_0 (ix2 (mpos (t.val % 3) (Nat.mod_lt _ (by decide)) q) (mcol t cc)) := by
  unfold iblk1
  rw [View.read_apply]
  show V c main_v4_0 _ = _
  congr 1
  funext a
  apply Fin.ext
  match a with
  | ⟨0, _⟩ => show win1_1.index t 0 * 4096 + 1 * q.val = 4096 * (t.val % 3) + q.val; rw [(w1_1 t).1]; omega
  | ⟨1, _⟩ => show win1_1.index t 1 * 1024 + 1 * cc.val = 1024 * (t.val / 3 % 28) + cc.val; rw [(w1_1 t).2]; omega

/-- The staged block of the factors, element by element, in terms of the whole array. -/
theorem mblk_2 (t : Fin cfg1.N) (cc : Fin 1024) :
    (iblk1 V c 2 t : Vec Ideal S1x1024 .f32) (ix2 0 cc) = V c main_v4_2 (ix2 0 (mcol t cc)) := by
  unfold iblk1
  rw [View.read_apply]
  show V c main_v4_2 _ = _
  congr 1
  funext a
  apply Fin.ext
  match a with
  | ⟨0, _⟩ => show win1_2.index t 0 * 1 + 1 * 0 = 0; rw [(w1_2 t).1]
  | ⟨1, _⟩ => show win1_2.index t 1 * 1024 + 1 * cc.val = 1024 * (t.val / 3 % 28) + cc.val; rw [(w1_2 t).2]; omega

/-! ## The running product -/

/-- One term of the product's element, over the region's own operands. -/
abbrev termV (R : Fin 6144) (j : Fin 28672) (q : Fin 12288) : EReal := termArr (V c main_v5) (V c main_v4_0) R j q

/-- Step `k`'s share of the product's element: 4096 consecutive terms. -/
def stepDot (R : Fin 6144) (j : Fin 28672) (k : ℕ) : EReal :=
  if h : k < 3 then ∑ q : Fin 4096, termV V c R j (mpos k h q) else 0

/-- The three steps together are the whole dot product. -/
theorem sum_stepDot (R : Fin 6144) (j : Fin 28672) :
    ∑ k ∈ Finset.range 3, stepDot V c R j k = ∑ q : Fin 12288, termV V c R j q := by
  rw [sum_blocks 3 4096 12288 rfl, Finset.sum_range]
  refine Finset.sum_congr rfl fun k _ => ?_
  unfold stepDot
  rw [dif_pos k.isLt]
  rfl

/-- A point adds its step's share. -/
theorem dot_point (t : Fin cfg1.N) (xs : Vec Ideal S1024x1024 .f32) (r cc : Fin 1024) :
    k1_pay2 (F := Ideal) xs (iblk1 V c 0 t) (iblk1 V c 1 t) (ix2 r cc)
      = (xs (ix2 r cc) + stepDot V c (mrow t r) (mcol t cc) (t.val % 3) : EReal) := by
  rw [step_apply]
  unfold stepDot
  rw [dif_pos (Nat.mod_lt _ (by decide))]
  simp only [mblk_0, mblk_1]
  rfl

/-- The running product after a point that is not the last of its block. -/
theorem runningDot (n : ℕ) : ∀ (hn : n < cfg1.N), ¬n % 3 = 2 → ∀ r cc : Fin 1024,
    (outsAt1 V c n hn).2 (ix2 r cc)
      = ∑ k ∈ Finset.range (n % 3 + 1), stepDot V c (mrow ⟨n, hn⟩ r) (mcol ⟨n, hn⟩ cc) k := by
  induction n with
  | zero =>
    intro hn h1 r cc
    have e := outsAt1_A V c ⟨0, hn⟩ (Nat.zero_mod _) h1
    dsimp only at e
    rw [e]
    dsimp only
    rw [sout_A, dot_point, zero_apply, zero_add]
    simp
  | succ n ih =>
    intro hn h1 r cc
    by_cases h0 : (n + 1) % 3 = 0
    · have e := outsAt1_A V c ⟨n + 1, hn⟩ h0 h1
      dsimp only at e
      rw [e]
      dsimp only
      rw [sout_A, dot_point, zero_apply, zero_add, h0]
      simp [h0]
    · have e := outsAt1_B V c ⟨n + 1, hn⟩ h0 h1
      dsimp only at e
      rw [e]
      dsimp only
      rw [sout_B, dot_point]
      show ((outsAt1 V c n _).2 (ix2 r cc) + stepDot V c _ _ ((n + 1) % 3) : EReal) = _
      rw [ih _ (by omega) r cc, Finset.sum_range_succ _ ((n + 1) % 3)]
      have em : n % 3 + 1 = (n + 1) % 3 := by omega
      have er : mrow ⟨n, Nat.lt_of_succ_lt hn⟩ r = mrow ⟨n + 1, hn⟩ r :=
        Fin.ext (by show 1024 * (n / 84) + r.val = 1024 * ((n + 1) / 84) + r.val; omega)
      have ec : mcol ⟨n, Nat.lt_of_succ_lt hn⟩ cc = mcol ⟨n + 1, hn⟩ cc :=
        Fin.ext (by show 1024 * (n / 3 % 28) + cc.val = 1024 * ((n + 1) / 3 % 28) + cc.val; omega)
      rw [em, er, ec]

/-- The result's element, over the region's own operands. -/
abbrev prodV (R : Fin 6144) (j : Fin 28672) : EReal := prodArr (V c main_v5) (V c main_v4_0) (V c main_v4_2) R j

/-- The result's block after the last point of a block. -/
theorem outs1_3 (t : Fin cfg1.N) (h1 : t.val % 3 = 2) (r cc : Fin 1024) :
    (outsAt1 V c t.val t.isLt).1 (ix2 r cc)
      = prodV V c (mrow t r) (mcol t cc) := by
  rw [outsAt1_C V c t (by omega) h1]
  dsimp only
  unfold prodV prodArr
  rw [out_C, scaled_apply, dot_point, mblk_2, runningDot V c (t.val - 1) _ (by omega) r cc, ← sum_stepDot,
    Finset.sum_range_succ _ 2, h1]
  have em : (t.val - 1) % 3 + 1 = 2 := by omega
  have er : mrow ⟨t.val - 1, Nat.lt_of_le_of_lt (Nat.sub_le _ _) t.isLt⟩ r = mrow t r :=
    Fin.ext (by show 1024 * ((t.val - 1) / 84) + r.val = 1024 * (t.val / 84) + r.val; omega)
  have ec : mcol ⟨t.val - 1, Nat.lt_of_le_of_lt (Nat.sub_le _ _) t.isLt⟩ cc = mcol t cc :=
    Fin.ext (by show 1024 * ((t.val - 1) / 3 % 28) + cc.val = 1024 * (t.val / 3 % 28) + cc.val; omega)
  rw [em, er, ec]

/-! ## The array after the run -/

/-- The result array's contents. -/
def wantY : Vec Ideal S6144x28672 .bf16 := fun i => prodV V c (i 0) (i 1)

/-- The last point of a block writes back its block of the result. -/
theorem flushed1_3 (t : Fin cfg1.N) (h1 : t.val % 3 = 2) :
    (dat1 V c).flushed 3 t = ((cfg1.win 3).blk t).view.read (Elt Ideal) (wantY V c) := by
  show (cfg1.win 3).cut (grid1.coords t) ((dat1 V c).after 3 t) = _
  rw [after1_3]
  funext y
  rw [View.read_apply]
  obtain ⟨r, cc, rfl⟩ : ∃ (r cc : Fin 1024), y = ix2 r cc := ⟨y 0, y 1, eq_ix2 y⟩
  show (outsAt1 V c t.val t.isLt).1 (ix2 r cc)
    = prodV V c ((((cfg1.win 3).blk t).view.emb (ix2 r cc)) 0) ((((cfg1.win 3).blk t).view.emb (ix2 r cc)) 1)
  have e0 : ((((cfg1.win 3).blk t).view.emb (ix2 r cc)) 0 : Fin 6144) = mrow t r := by
    apply Fin.ext
    show win1_3.index t 0 * 1024 + 1 * r.val = 1024 * (t.val / 84) + r.val
    rw [(w1_3 t).1]; omega
  have e1 : ((((cfg1.win 3).blk t).view.emb (ix2 r cc)) 1 : Fin 28672) = mcol t cc := by
    apply Fin.ext
    show win1_3.index t 1 * 1024 + 1 * cc.val = 1024 * (t.val / 3 % 28) + cc.val
    rw [(w1_3 t).2]; omega
  rw [e0, e1, outs1_3 V c t h1]

/-- The result array after the region. -/
theorem final1_3 : (dat1 V c).arrAt 3 cfg1.N = wantY V c :=
  (dat1 V c).arrAt_eq_of_cover 3 (wantY V c) (fun t h => flushed1_3 V c t ((flush1_3 t).mp h)) fun i => by
    have hi0 : (i 0 : Nat) < 6144 := (i 0).isLt
    have hi1 : (i 1 : Nat) < 28672 := (i 1).isLt
    let t : Fin cfg1.N := ⟨84 * ((i 0 : Nat) / 1024) + 3 * ((i 1 : Nat) / 1024) + 2, lt_of_lt_of_eq (by omega) (show cfg1.N = 504 from N_1).symm⟩
    have ht : t.val = 84 * ((i 0 : Nat) / 1024) + 3 * ((i 1 : Nat) / 1024) + 2 := rfl
    refine ⟨t, (flush1_3 t).mpr (by omega), ?_⟩
    show i ∈ ((View.whole main_v6).slice (win1_3.rect t)).set
    rw [View.set_slice_whole, Rect.mem_set_unit]
    intro a
    match a with
    | ⟨0, _⟩ =>
      show win1_3.index t 0 * 1024 ≤ (i 0 : Nat) ∧ (i 0 : Nat) < win1_3.index t 0 * 1024 + 1024
      rw [(w1_3 t).1, ht]; omega
    | ⟨1, _⟩ =>
      show win1_3.index t 1 * 1024 ≤ (i 1 : Nat) ∧ (i 1 : Nat) < win1_3.index t 1 * 1024 + 1024
      rw [(w1_3 t).2, ht]; omega

end Cert.Value
-- ==== Proof.RefValue.lean ====
/- The reference's two results read at an element, over its arguments. -/
module

public import proofs.«01_k».proof.Proof.Gen.ReferenceIdeal.Read
public import proofs.«01_k».proof.Proof.Nibble
public import proofs.«01_k».proof.Proof.WeightPayload
public import Idealize.ShloMosaic.Lib.Pointwise

@[expose] public section

set_option maxRecDepth 16384

noncomputable section

namespace Cert.Value

open Idealize.ShloMosaic
open Cert.ReferenceIdeal Cert.ReferenceIdeal.Read

/-- The position of row `2 k + p`. -/
def pos (p : Fin 2) (k : Fin 6144) : Fin 12288 := ⟨2 * k.val + p.val, by omega⟩

/-- Row `r` of one half of the weight over the arguments themselves: the code times its group's scale, plus twice the
    product of row `2 r + p` of the first low-rank factor with the second. -/
def wt (p : Fin 2) (x1 : Vec Ideal S6144x28672 .i8) (x2 : Vec Ideal S96x28672 .bf16) (x3 : Vec Ideal S12288x32 .bf16)
    (x4 : Vec Ideal S32x28672 .bf16) (r : Fin 6144) (j : Fin 28672) : EReal :=
  nib p.val (x1 (ix2 r j)) * x2 (ix2 ⟨r.val / 64, by omega⟩ j) + two * ∑ q : Fin 32, x3 (ix2 (pos p r) q) * x4 (ix2 q j)

variable (x0 : Vec Ideal S2x3072x12288 .bf16) (x1 : Vec Ideal S6144x28672 .i8) (x2 : Vec Ideal S96x28672 .bf16) (x3 : Vec Ideal S12288x32 .bf16)
    (x4 : Vec Ideal S32x28672 .bf16) (x5 : Vec Ideal S28672 .f32)

/-- The first slice of the adapter factor takes its even rows. -/
theorem even_rows (r : Fin 6144) (q : Fin 32) : val_main_v5 (F := Ideal) x3 (ix2 r q) = x3 (ix2 (pos 0 r) q) := by
  pointwise [val_main_v5]
  exact congrArg (fun z => x3 (ix2 z q)) (Fin.ext rfl)

/-- The second slice of the adapter factor takes its odd rows. -/
theorem odd_rows (r : Fin 6144) (q : Fin 32) : val_main_v22 (F := Ideal) x3 (ix2 r q) = x3 (ix2 (pos 1 r) q) := by
  pointwise [val_main_v22]
  exact congrArg (fun z => x3 (ix2 z q)) (Fin.ext (Nat.add_comm _ _))

/-- The first slice of the activations takes the even columns. -/
theorem even_cols (b : Fin 2) (s : Fin 3072) (k : Fin 6144) : val_main_v41 (F := Ideal) x0 (ix3 b s k) = x0 (ix3 b s (pos 0 k)) := by
  pointwise [val_main_v41]
  exact congrArg (fun z => x0 (ix3 b s z)) (Fin.ext rfl)

/-- The second slice of the activations takes the odd columns. -/
theorem odd_cols (b : Fin 2) (s : Fin 3072) (k : Fin 6144) : val_main_v44 (F := Ideal) x0 (ix3 b s k) = x0 (ix3 b s (pos 1 k)) := by
  pointwise [val_main_v44]
  exact congrArg (fun z => x0 (ix3 b s z)) (Fin.ext (Nat.add_comm _ _))

/-- The scale of a row is its group's. -/
theorem scales (r : Fin 6144) (j : Fin 28672) : val_main_v2 (F := Ideal) x2 (ix2 r j) = x2 (ix2 ⟨r.val / 64, by omega⟩ j) := by
  rw [val_main_v2_apply, val_main_v1_apply]
  congr 1
  funext a
  apply Fin.ext
  match a with
  | ⟨0, _⟩ => show (r.val * 28672 + j.val) / 1835008 = r.val / 64; omega
  | ⟨1, _⟩ => show (r.val * 28672 + j.val) % 28672 = j.val; omega

/-- The decoded low code. -/
theorem low_code (r : Fin 6144) (j : Fin 28672) : val_main_v11 (F := Ideal) x1 (ix2 r j) = nib 0 (x1 (ix2 r j)) := by
  unfold nib
  rw [← ref_lo]
  rfl

/-- The decoded high code. -/
theorem high_code (r : Fin 6144) (j : Fin 28672) : val_main_v28 (F := Ideal) x1 (ix2 r j) = nib 1 (x1 (ix2 r j)) := by
  unfold nib
  rw [← ref_hi]
  rfl

/-- The adapter product on an even row. -/
theorem dot_low (r : Fin 6144) (j : Fin 28672) :
    val_main_v13 (F := Ideal) x3 x4 (ix2 r j) = (∑ q : Fin 32, x3 (ix2 (pos 0 r) q) * x4 (ix2 q j) : EReal) := by
  rw [val_main_v13_apply]
  refine Finset.sum_congr rfl fun q _ => ?_
  rw [← even_rows x3]
  congr 2 <;> exact eq_ix2 _

/-- The adapter product on an odd row. -/
theorem dot_high (r : Fin 6144) (j : Fin 28672) :
    val_main_v30 (F := Ideal) x3 x4 (ix2 r j) = (∑ q : Fin 32, x3 (ix2 (pos 1 r) q) * x4 (ix2 q j) : EReal) := by
  rw [val_main_v30_apply]
  refine Finset.sum_congr rfl fun q _ => ?_
  rw [← odd_rows x3]
  congr 2 <;> exact eq_ix2 _

/-- The reference's even rows of the weight. -/
theorem low_weight (r : Fin 6144) (j : Fin 28672) : val_main_v17 (F := Ideal) x1 x2 x3 x4 (ix2 r j) = wt 0 x1 x2 x3 x4 r j := by
  unfold wt
  show _ = nib 0 (x1 (ix2 r j)) * _ + _
  rw [← dot_low, ← scales x2, ← low_code]
  rfl

/-- The reference's odd rows of the weight. -/
theorem high_weight (r : Fin 6144) (j : Fin 28672) : val_main_v34 (F := Ideal) x1 x2 x3 x4 (ix2 r j) = wt 1 x1 x2 x3 x4 r j := by
  unfold wt
  show _ = nib 1 (x1 (ix2 r j)) * _ + _
  rw [← dot_high, ← scales x2, ← high_code]
  rfl

/-- Column `j`'s length over the arguments themselves. -/
def len (j : Fin 28672) : EReal :=
  Ideal.sqrt (∑ k : Fin 6144, (wt 0 x1 x2 x3 x4 k j * wt 0 x1 x2 x3 x4 k j + wt 1 x1 x2 x3 x4 k j * wt 1 x1 x2 x3 x4 k j))

/-- The reference's second result: the columns' lengths. -/
theorem ref_len (j : Fin 28672) : val_main_v40 (F := Ideal) x1 x2 x3 x4 (ix1 j) = len x1 x2 x3 x4 j := by
  rw [val_main_v40_apply, val_main_v39_apply, val_main_v36_apply, val_main_v38_apply]
  have e36 : ∀ k : Fin 6144, val_main_v35 (F := Ideal) x1 x2 x3 x4 (idx_main_v36 (ix1 j) k)
      = (wt 0 x1 x2 x3 x4 k j * wt 0 x1 x2 x3 x4 k j : EReal) := fun k => by
    rw [show idx_main_v36 (ix1 j) k = ix2 k j from eq_ix2 _, val_main_v35_apply, low_weight]
    rfl
  have e38 : ∀ k : Fin 6144, val_main_v37 (F := Ideal) x1 x2 x3 x4 (idx_main_v38 (ix1 j) k)
      = (wt 1 x1 x2 x3 x4 k j * wt 1 x1 x2 x3 x4 k j : EReal) := fun k => by
    rw [show idx_main_v38 (ix1 j) k = ix2 k j from eq_ix2 _, val_main_v37_apply, high_weight]
    rfl
  have z7 : ∀ z, val_main_cst_7 (F := Ideal) z = (0 : EReal) := fun _ => Ideal.ofBits_zero_f32
  have z8 : ∀ z, val_main_cst_8 (F := Ideal) z = (0 : EReal) := fun _ => Ideal.ofBits_zero_f32
  simp only [e36, e38, z7, z8, zero_add]
  unfold len
  rw [Finset.sum_add_distrib]
  rfl

/-- The reference's first product: the even columns of the input with the even rows of the weight. -/
theorem dot_even (b : Fin 2) (s : Fin 3072) (j : Fin 28672) : val_main_v43 (F := Ideal) x0 x1 x2 x3 x4 (ix3 b s j)
    = (∑ k : Fin 6144, x0 (ix3 b s (pos 0 k)) * wt 0 x1 x2 x3 x4 k j : EReal) := by
  rw [val_main_v43_apply]
  refine Finset.sum_congr rfl fun k _ => ?_
  rw [show lidx_main_v43 (ix3 b s j) k = ix3 b s k from eq_ix3 _, show ridx_main_v43 (ix3 b s j) k = ix2 k j from eq_ix2 _,
    even_cols, val_main_v42_apply, low_weight]
  rfl

/-- The reference's second product: the odd columns of the input with the odd rows of the weight. -/
theorem dot_odd (b : Fin 2) (s : Fin 3072) (j : Fin 28672) : val_main_v46 (F := Ideal) x0 x1 x2 x3 x4 (ix3 b s j)
    = (∑ k : Fin 6144, x0 (ix3 b s (pos 1 k)) * wt 1 x1 x2 x3 x4 k j : EReal) := by
  rw [val_main_v46_apply]
  refine Finset.sum_congr rfl fun k _ => ?_
  rw [show lidx_main_v46 (ix3 b s j) k = ix3 b s k from eq_ix3 _, show ridx_main_v46 (ix3 b s j) k = ix2 k j from eq_ix2 _,
    odd_cols, val_main_v45_apply, high_weight]
  rfl

/-- An element of the result over the arguments themselves. -/
def out (b : Fin 2) (s : Fin 3072) (j : Fin 28672) : EReal :=
  ((∑ k : Fin 6144, x0 (ix3 b s (pos 0 k)) * wt 0 x1 x2 x3 x4 k j) + (∑ k : Fin 6144, x0 (ix3 b s (pos 1 k)) * wt 1 x1 x2 x3 x4 k j))
    * Ideal.div (x5 (ix1 j)) (len x1 x2 x3 x4 j)

/-- The reference's first result. -/
theorem ref_out (b : Fin 2) (s : Fin 3072) (j : Fin 28672) :
    val_main_v52 (F := Ideal) x0 x1 x2 x3 x4 x5 (ix3 b s j) = out x0 x1 x2 x3 x4 x5 b s j := by
  rw [val_main_v52_apply, val_main_v51_apply, val_main_v47_apply, dot_even, dot_odd, val_main_v50_apply, val_main_v49_apply,
    val_main_v48_apply, show idx_main_v49 (idx_main_v50 (ix3 b s j)) = ix1 j from eq_ix1 _, ref_len]
  unfold out
  rfl

end Cert.Value
-- ==== Proof.KernelResult.lean ====
/- The kernel's two results at the end of its run, element by element over the arguments as launched. -/
module

public import proofs.«01_k».proof.Proof.WeightRun
public import proofs.«01_k».proof.Proof.MatmulRun
public import proofs.«01_k».proof.Proof.RefValue
public import proofs.«01_k».proof.Proof.KernelIdealRun

@[expose] public section

set_option maxRecDepth 16384

noncomputable section

namespace Cert.Value

open Idealize.ShloMosaic Idealize.ShloMosaic.TcCoe Idealize.SL.Sem
open Cert.KernelIdeal Cert.KernelIdeal.Gen Cert.KernelIdeal.Gen.Whole

variable (m : (ℓ : Loc nD τ sig) → Buf (Elt Ideal) ℓ) (ρ : Dev nD → PrngReg) (c : Dev nD)

/-! ## The arguments as launched -/

/-- The kernel argument: activations. -/
abbrev arg0 : Vec Ideal S2x3072x12288 .bf16 := m ((c.tc : Thread nD τ).loc main_arg0)
/-- The kernel argument: codes. -/
abbrev arg1 : Vec Ideal S6144x28672 .i8 := m ((c.tc : Thread nD τ).loc main_arg1)
/-- The kernel argument: scales. -/
abbrev arg2 : Vec Ideal S96x28672 .bf16 := m ((c.tc : Thread nD τ).loc main_arg2)
/-- The kernel argument: first adapter factor. -/
abbrev arg3 : Vec Ideal S12288x32 .bf16 := m ((c.tc : Thread nD τ).loc main_arg3)
/-- The kernel argument: second adapter factor. -/
abbrev arg4 : Vec Ideal S32x28672 .bf16 := m ((c.tc : Thread nD τ).loc main_arg4)
/-- The kernel argument: magnitudes. -/
abbrev arg5 : Vec Ideal S28672 .f32 := m ((c.tc : Thread nD τ).loc main_arg5)

/-! ## What the first region finds -/

/-- The codes are untouched when the first launch starts. -/
theorem V1_arg1 : V1 m ρ c main_arg1 = arg1 m c := W1_args m ρ c main_arg1 (by decide)

/-- The second adapter factor is untouched when the first launch starts. -/
theorem V1_arg4 : V1 m ρ c main_arg4 = arg4 m c := W1_args m ρ c main_arg4 (by decide)

/-- The reshaped scales, element by element. -/
theorem V1_v0 (g : Fin 96) (j : Fin 28672) : (V1 m ρ c main_v0 : Vec Ideal S96x1x28672 .bf16) (ix3 g 0 j) = arg2 m c (ix2 g j) := by
  show (StableHlo.after hostOps0 _ (Proc.devRef .tc main_v0) : Vec Ideal S96x1x28672 .bf16) _ = _
  after_results
  show shapeCast S96x1x28672 (arg2 m c) shapeCasts_S96x28672_S96x1x28672 (ix3 g 0 j) = _
  pointwise []

/-- The first sliced adapter factor holds the even rows. -/
theorem V1_v1 (r : Fin 6144) (q : Fin 32) : (V1 m ρ c main_v1 : Vec Ideal S6144x32 .bf16) (ix2 r q) = arg3 m c (ix2 (pos 0 r) q) := by
  show (StableHlo.after hostOps0 _ (Proc.devRef .tc main_v1) : Vec Ideal S6144x32 .bf16) _ = _
  after_results
  exact even_rows (arg3 m c) r q

/-- The second sliced adapter factor holds the odd rows. -/
theorem V1_v2 (r : Fin 6144) (q : Fin 32) : (V1 m ρ c main_v2 : Vec Ideal S6144x32 .bf16) (ix2 r q) = arg3 m c (ix2 (pos 1 r) q) := by
  show (StableHlo.after hostOps0 _ (Proc.devRef .tc main_v2) : Vec Ideal S6144x32 .bf16) _ = _
  after_results
  exact odd_rows (arg3 m c) r q

/-- The reshaped magnitudes, element by element. -/
theorem V1_v3 (j : Fin 28672) : (V1 m ρ c main_v3 : Vec Ideal S1x28672 .f32) (ix2 0 j) = arg5 m c (ix1 j) := by
  show (StableHlo.after hostOps0 _ (Proc.devRef .tc main_v3) : Vec Ideal S1x28672 .f32) _ = _
  after_results
  show shapeCast S1x28672 (arg5 m c) shapeCasts_S28672_S1x28672 (ix2 0 j) = _
  pointwise []

/-! ## The weight, the lengths and the factors over the arguments -/

/-- The weight of a low code is the reference's. -/
theorem wArr_lo (r : Fin 6144) (j : Fin 28672) :
    wArr 0 (V1 m ρ c main_arg1) (V1 m ρ c main_v0) (V1 m ρ c main_v1) (V1 m ρ c main_arg4) r j
      = wt 0 (arg1 m c) (arg2 m c) (arg3 m c) (arg4 m c) r j := by
  unfold wArr wt
  rw [V1_arg1, V1_arg4, V1_v0]
  refine congrArg₂ (· + ·) rfl (congrArg (two * ·) (Finset.sum_congr rfl fun q _ => ?_))
  exact congrArg (· * _) (V1_v1 m ρ c r q)

/-- The weight of a high code is the reference's. -/
theorem wArr_hi (r : Fin 6144) (j : Fin 28672) :
    wArr 1 (V1 m ρ c main_arg1) (V1 m ρ c main_v0) (V1 m ρ c main_v2) (V1 m ρ c main_arg4) r j
      = wt 1 (arg1 m c) (arg2 m c) (arg3 m c) (arg4 m c) r j := by
  unfold wArr wt
  rw [V1_arg1, V1_arg4, V1_v0]
  refine congrArg₂ (· + ·) rfl (congrArg (two * ·) (Finset.sum_congr rfl fun q _ => ?_))
  exact congrArg (· * _) (V1_v2 m ρ c r q)

/-- The column lengths are the reference's. -/
theorem lenV_eq (j : Fin 28672) : lenV (V1 m ρ) c j = len (arg1 m c) (arg2 m c) (arg3 m c) (arg4 m c) j := by
  unfold lenV lenArr len sqArr
  refine congrArg Ideal.sqrt (Finset.sum_congr rfl fun k _ => ?_)
  rw [wArr_lo, wArr_hi]

/-- An even row of the stored weight matrix is the reference's low-code weight. -/
theorem weightV_even (k : Fin 6144) (j : Fin 28672) :
    weightV (V1 m ρ) c (pos 0 k) j = wt 0 (arg1 m c) (arg2 m c) (arg3 m c) (arg4 m c) k j := by
  unfold weightV vArr
  have hk : (⟨(pos 0 k).val / 2, by have := (pos 0 k).isLt; omega⟩ : Fin 6144) = k :=
    Fin.ext (by show (2 * k.val + 0) / 2 = k.val; omega)
  rw [if_pos (by show (2 * k.val + 0) % 2 = 0; omega), wArr_lo, hk]

/-- An odd row of the stored weight matrix is the reference's high-code weight. -/
theorem weightV_odd (k : Fin 6144) (j : Fin 28672) :
    weightV (V1 m ρ) c (pos 1 k) j = wt 1 (arg1 m c) (arg2 m c) (arg3 m c) (arg4 m c) k j := by
  unfold weightV vArr
  have hk : (⟨(pos 1 k).val / 2, by have := (pos 1 k).isLt; omega⟩ : Fin 6144) = k :=
    Fin.ext (by show (2 * k.val + 1) / 2 = k.val; omega)
  rw [if_neg (by show ¬(2 * k.val + 1) % 2 = 0; omega), wArr_hi, hk]

/-! ## What the second region finds -/

/-- The second launch reads the weights the first one wrote. -/
theorem V3_v4_0 : V3 m ρ c main_v4_0 = wantW (V1 m ρ) c :=
  (W3_of m ρ c main_v4_0 (by decide)).trans ((W2_arr m ρ c 6).trans (final_6 (V1 m ρ) c))

/-- The second launch reads the factors the first one wrote. -/
theorem V3_v4_2 : V3 m ρ c main_v4_2 = wantF (V1 m ρ) c :=
  (W3_of m ρ c main_v4_2 (by decide)).trans ((W2_arr m ρ c 8).trans (final_8 (V1 m ρ) c))

/-- The row of the flattened input that row `s` of sheet `b` is. -/
def flat (b : Fin 2) (s : Fin 3072) : Fin 6144 := ⟨3072 * b.val + s.val, by omega⟩

/-- The reshaped activations, element by element. -/
theorem V3_v5 (b : Fin 2) (s : Fin 3072) (q : Fin 12288) :
    (V3 m ρ c main_v5 : Vec Ideal S6144x12288 .bf16) (ix2 (flat b s) q) = arg0 m c (ix3 b s q) := by
  have e : V3 m ρ c main_v5 = shapeCast S6144x12288 (arg0 m c) shapeCasts_S2x3072x12288_S6144x12288 := by
    show StableHlo.after hostOps1 _ (Proc.devRef .tc main_v5) = _
    after_results
    rw [show W2 m ρ c main_arg0 = arg0 m c from W2_args m ρ c main_arg0 (by decide)]
    rfl
  rw [e]
  generalize arg0 m c = y
  unfold flat
  pointwise []

/-! ## The results -/

/-- A sum over the even and odd positions. -/
theorem sum_even_odd (f : Fin 12288 → EReal) :
    ∑ q : Fin 12288, f q = (∑ k : Fin 6144, f (pos 0 k)) + ∑ k : Fin 6144, f (pos 1 k) := by
  rw [sum_blocks 6144 2 12288 rfl f, ← Finset.sum_add_distrib]
  refine Finset.sum_congr rfl fun k _ => ?_
  rw [Fin.sum_univ_two]
  rfl

/-- The product of the second launch is the reference's first result. -/
theorem prodV_eq (b : Fin 2) (s : Fin 3072) (j : Fin 28672) :
    prodV (V3 m ρ) c (flat b s) j = out (arg0 m c) (arg1 m c) (arg2 m c) (arg3 m c) (arg4 m c) (arg5 m c) b s j := by
  unfold prodV prodArr out termArr
  rw [sum_even_odd, V3_v4_0, V3_v4_2]
  have we : ∀ k : Fin 6144, wantW (V1 m ρ) c (ix2 (pos 0 k) j) = wt 0 (arg1 m c) (arg2 m c) (arg3 m c) (arg4 m c) k j :=
    fun k => weightV_even m ρ c k j
  have wo : ∀ k : Fin 6144, wantW (V1 m ρ) c (ix2 (pos 1 k) j) = wt 1 (arg1 m c) (arg2 m c) (arg3 m c) (arg4 m c) k j :=
    fun k => weightV_odd m ρ c k j
  have wf : wantF (V1 m ρ) c (ix2 0 j)
      = Ideal.div (arg5 m c (ix1 j)) (len (arg1 m c) (arg2 m c) (arg3 m c) (arg4 m c) j) := by
    show Ideal.div _ (lenV (V1 m ρ) c j) = _
    rw [lenV_eq]
    exact congrArg (fun z => Ideal.div z _) (V1_v3 m ρ c j)
  refine congrArg₂ (· * ·) (congrArg₂ (· + ·) (Finset.sum_congr rfl fun k _ => ?_) (Finset.sum_congr rfl fun k _ => ?_)) wf
  · rw [V3_v5, we]
  · rw [V3_v5, wo]

/-- The kernel's first result at the end of its run. -/
theorem W5_v7 (b : Fin 2) (s : Fin 3072) (j : Fin 28672) :
    (W5 m ρ c main_v7 : Vec Ideal S2x3072x28672 .bf16) (ix3 b s j)
      = out (arg0 m c) (arg1 m c) (arg2 m c) (arg3 m c) (arg4 m c) (arg5 m c) b s j := by
  have e : W5 m ρ c main_v7 = shapeCast S2x3072x28672 (wantY (V3 m ρ) c) shapeCasts_S6144x28672_S2x3072x28672 := by
    show StableHlo.after hostOps2 _ (Proc.devRef .tc main_v7) = _
    after_results
    rw [show W4 m ρ c main_v6 = wantY (V3 m ρ) c from (W4_arr m ρ c 3).trans (final1_3 (V3 m ρ) c)]
    rfl
  rw [e]
  have h : shapeCast S2x3072x28672 (wantY (V3 m ρ) c) shapeCasts_S6144x28672_S2x3072x28672 (ix3 b s j) = wantY (V3 m ρ) c (ix2 (flat b s) j) := by
    generalize wantY (V3 m ρ) c = y
    unfold flat
    pointwise []
    exact congrArg (fun z => y (ix2 z j)) (Fin.ext (by show b.val * 3072 + s.val = 3072 * b.val + s.val; omega))
  rw [h]
  exact prodV_eq m ρ c b s j

/-- The kernel's second result at the end of its run. -/
theorem W5_v8 (j : Fin 28672) :
    (W5 m ρ c main_v8 : Vec Ideal S28672 .f32) (ix1 j) = len (arg1 m c) (arg2 m c) (arg3 m c) (arg4 m c) j := by
  have e : W5 m ρ c main_v8 = shapeCast S28672 (wantN (V1 m ρ) c) shapeCasts_S1x28672_S28672 := by
    show StableHlo.after hostOps2 _ (Proc.devRef .tc main_v8) = _
    after_results
    rw [show W4 m ρ c main_v4_1 = wantN (V1 m ρ) c from
      (W4_of m ρ c main_v4_1 (by decide)).trans ((W3_of m ρ c main_v4_1 (by decide)).trans ((W2_arr m ρ c 7).trans (final_7 (V1 m ρ) c)))]
    rfl
  rw [e]
  have h : shapeCast S28672 (wantN (V1 m ρ) c) shapeCasts_S1x28672_S28672 (ix1 j) = wantN (V1 m ρ) c (ix2 0 j) := by
    generalize wantN (V1 m ρ) c = y
    pointwise []
  rw [h]
  exact lenV_eq m ρ c j

/-! ## The results against the reference's -/

/-- The buffers at the end of the run. -/
abbrev V5 : (c : Dev nD) → (b : Ref sig .tc) → Buf (Elt Ideal) ((c : Thread nD τ).loc b) := fun c b => W5 m ρ c b

/-- The reference's first result on the kernel's arguments is the kernel's. -/
theorem ref_eq_v7 : Cert.ReferenceIdeal.Read.val_main_v52 (F := Ideal) (arg0 m c) (arg1 m c) (arg2 m c) (arg3 m c) (arg4 m c) (arg5 m c)
    = V5 m ρ c main_v7 := by
  funext i
  obtain ⟨b, s, j, rfl⟩ : ∃ (b : Fin 2) (s : Fin 3072) (j : Fin 28672), i = ix3 b s j := ⟨i 0, i 1, i 2, eq_ix3 i⟩
  exact (ref_out _ _ _ _ _ _ b s j).trans (W5_v7 m ρ c b s j).symm

/-- The reference's second result on the kernel's arguments is the kernel's. -/
theorem ref_eq_v8 : Cert.ReferenceIdeal.Read.val_main_v40 (F := Ideal) (arg1 m c) (arg2 m c) (arg3 m c) (arg4 m c)
    = V5 m ρ c main_v8 := by
  funext i
  obtain ⟨j, rfl⟩ : ∃ j : Fin 28672, i = ix1 j := ⟨i 0, eq_ix1 i⟩
  exact (ref_len _ _ _ _ j).trans (W5_v8 m ρ c j).symm

end Cert.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.KernelResult
public import Idealize.ShloMosaic.Lib.Bf16Pair
public import Idealize.ShloMosaic.Adequacy
public import Idealize.ShloMosaic.Init

@[expose] public section

noncomputable section

namespace Cert.Proof

open Idealize.ShloMosaic Idealize.SL.Sem

/-- The reference runs, its arguments end as they were, and every counter ends at zero because it declares none. -/
theorem frame_r : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

open Cert.KernelIdeal.Gen.Whole in
/-- The idealized kernel's run: its two results at their final contents, its arguments as they were. -/
theorem run_k (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v7) = Cert.Value.V5 m g c Cert.KernelIdeal.main_v7
        ∧ r.2.mem ((c.tc : Thread Cert.KernelIdeal.nD Cert.KernelIdeal.τ).loc Cert.KernelIdeal.main_v8) = Cert.Value.V5 m g c Cert.KernelIdeal.main_v8
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c =>
      ⟨h.1 c _ (mem_uc Cert.KernelIdeal.main_v7 (by decide)),
       h.1 c _ (mem_uc Cert.KernelIdeal.main_v8 (by decide)),
       (h.1 c _ (mem_uc Cert.KernelIdeal.main_arg0 (by decide))).trans (W5_main_arg0 m g c),
       (h.1 c _ (mem_uc Cert.KernelIdeal.main_arg1 (by decide))).trans (W5_main_arg1 m g c),
       (h.1 c _ (mem_uc Cert.KernelIdeal.main_arg2 (by decide))).trans (W5_main_arg2 m g c),
       (h.1 c _ (mem_uc Cert.KernelIdeal.main_arg3 (by decide))).trans (W5_main_arg3 m g c),
       (h.1 c _ (mem_uc Cert.KernelIdeal.main_arg4 (by decide))).trans (W5_main_arg4 m g c),
       (h.1 c _ (mem_uc Cert.KernelIdeal.main_arg5 (by decide))).trans (W5_main_arg5 m g c)⟩) (run_main m g)

/-- The idealized kernel computes what the idealized reference does: both results, at every element. -/
theorem algebraic : Cert.algebraic_KernelIdeal_ReferenceIdeal := by
  intro m g m' g' _ hargs
  refine ⟨fun c => Cert.Value.V5 m g c Cert.KernelIdeal.main_v7, fun c => Cert.Value.V5 m g c Cert.KernelIdeal.main_v8, run_k m g, ?_⟩
  refine (θ_run Cert.ReferenceIdeal.defs _ _).mono (fun r h c => ⟨(h c).1.trans ?_, (h c).2.1.trans ?_, (h c).2.2⟩)
    (Cert.ReferenceIdeal.Value.run (F := Ideal) m' g')
  · obtain ⟨h0, h1, h2, h3, h4, h5⟩ := hargs c
    rw [Cert.ReferenceIdeal.Read.val_main_v52_eq, h0, h1, h2, h3, h4, h5]
    exact Cert.Value.ref_eq_v7 m g c
  · obtain ⟨h0, h1, h2, h3, h4, h5⟩ := hargs c
    rw [Cert.ReferenceIdeal.Read.val_main_v40_eq, h1, h2, h3, h4]
    exact Cert.Value.ref_eq_v8 m g c

/-- Every claim: the three frames, the rewrites of the idealized kernel, and its agreement with the reference. -/
theorem claim : Cert.Claim := ⟨Cert.Kernel.Gen.facts, Cert.KernelIdeal.Gen.facts, Cert.ReferenceIdeal.Gen.facts,
  fun m g _ => Cert.Kernel.Gen.Whole.frame m g,
  fun m g _ => Cert.KernelIdeal.Gen.Whole.frame m g,
  frame_r,
  ⟨IdealRules.bf16_pair.statement _ _, IdealRules.bf16_pair.packStatement _⟩,
  algebraic⟩

end Cert.Proof

end
